-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonnegative [hPre_scales_nonnegative : Cert.Pre_scales_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonnegative [hPre_scales_nonnegative : Cert.Pre_scales_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scales_nonnegative [hKernelIdeal : Cert.KernelIdeal.Facts] [hPre_scales_nonnegative : Cert.Pre_scales_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scales_nonnegative [hReferenceIdeal : Cert.ReferenceIdeal.Facts] [hPre_scales_nonnegative : Cert.Pre_scales_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_scales_nonnegative [hKernelIdeal : Cert.KernelIdeal.Facts] [hReferenceIdeal : Cert.ReferenceIdeal.Facts] [hPre_scales_nonnegative : Cert.Pre_scales_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v17_2)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v17_2) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17_0) = v0 c
          ∧ r.2.mem ((c.tc : Thread Cert.ReferenceIdeal.nD Cert.ReferenceIdeal.τ).loc Cert.ReferenceIdeal.main_v17_1) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v17_2) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scales_nonnegative : Cert.Pre_scales_nonnegative.Facts),
    quiescent_Kernel (hKernel := hKernel)
    ∧ quiescent_KernelIdeal (hKernelIdeal := hKernelIdeal)
    ∧ quiescent_KernelIdeal_pre_scales_nonnegative (hKernelIdeal := hKernelIdeal) (hPre_scales_nonnegative := hPre_scales_nonnegative)
    ∧ quiescent_ReferenceIdeal (hReferenceIdeal := hReferenceIdeal)
    ∧ quiescent_ReferenceIdeal_pre_scales_nonnegative (hReferenceIdeal := hReferenceIdeal) (hPre_scales_nonnegative := hPre_scales_nonnegative)
    ∧ preserves_Kernel_KernelIdeal
    ∧ algebraic_KernelIdeal_ReferenceIdeal_pre_scales_nonnegative (hKernelIdeal := hKernelIdeal) (hReferenceIdeal := hReferenceIdeal) (hPre_scales_nonnegative := hPre_scales_nonnegative)
-- ==== Pre_scales_nonnegative.lean ====
abbrev S4x1x4096 : Shape := ⟨3, ![4, 1, 4096]⟩
abbrev S4x1x4x64 : Shape := ⟨4, ![4, 1, 4, 64]⟩
abbrev S4x32768x4x64 : Shape := ⟨4, ![4, 32768, 4, 64]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4x1x4096 .bf16) (main_arg1 : FVec F S4x1x4x64 .bf16) (main_arg2 : FVec F S4x1x4x64 .bf16) (main_arg3 : FVec F S4x32768x4x64 .fp8e4m3) (main_arg4 : FVec F S4 .f32) (main_arg5 : FVec F S4x32768x4x64 .fp8e4m3) (main_arg6 : FVec F S4 .f32) : IVec S4 1 :=
  let main_cst : FVec F S_ .f32 := constant S_ .f32 0x00000000#32
  let main_v0 : FVec F S4 .f32 := broadcastInDim S4 ![] bcast_S_S4 main_cst
  let main_v1 : IVec S4 1 := cmpf .oge main_arg4 main_v0
  let main_cst_0 : FVec F S_ .f32 := constant S_ .f32 0x00000000#32
  let main_v2 : FVec F S4 .f32 := broadcastInDim S4 ![] bcast_S_S4 main_cst_0
  let main_v3 : IVec S4 1 := cmpf .oge main_arg6 main_v2
  let main_v4 : IVec S4 1 := andi main_v1 main_v3
  main_v4
-- ==== Kernel.lean ====
abbrev S4x1x4096 : Shape := ⟨3, ![4, 1, 4096]⟩
abbrev S4x1x4x64 : Shape := ⟨4, ![4, 1, 4, 64]⟩
abbrev S4x32768x4x64 : Shape := ⟨4, ![4, 32768, 4, 64]⟩
abbrev S4 : Shape := ⟨1, ![4]⟩
abbrev S4x64x64 : Shape := ⟨3, ![4, 64, 64]⟩
abbrev S64 : Shape := ⟨1, ![64]⟩
abbrev S64x1 : Shape := ⟨2, ![64, 1]⟩
abbrev S_ : Shape := ⟨0, ![]⟩
abbrev S1x4 : Shape := ⟨2, ![1, 4]⟩
abbrev S64x4 : Shape := ⟨2, ![64, 4]⟩
abbrev S1x64x4x1 : Shape := ⟨4, ![1, 64, 4, 1]⟩
abbrev S4x64x1x64 : Shape := ⟨4, ![4, 64, 1, 64]⟩
abbrev S4x64x4x64 : Shape := ⟨4, ![4, 64, 4, 64]⟩
abbrev S4x64x256 : Shape := ⟨3, ![4, 64, 256]⟩
abbrev S4x4x64x32768 : Shape := ⟨4, ![4, 4, 64, 32768]⟩
abbrev S4x256x32768 : Shape := ⟨3, ![4, 256, 32768]⟩
abbrev S1x64x256 : Shape := ⟨3, ![1, 64, 256]⟩
abbrev S1x64x64 : Shape := ⟨3, ![1, 64, 64]⟩
abbrev S1x1x4x64 : Shape := ⟨4, ![1, 1, 4, 64]⟩
abbrev S1x256x4096 : Shape := ⟨3, ![1, 256, 4096]⟩
abbrev S64x128 : Shape := ⟨2, ![64, 128]⟩
abbrev S64x256 : Shape := ⟨2, ![64, 256]⟩
abbrev S1 : Shape := ⟨1, ![1]⟩
abbrev S2x128 : Shape := ⟨2, ![2, 128]⟩
abbrev S1x2x128 : Shape := ⟨3, ![1, 2, 128]⟩
abbrev S1x1x1 : Shape := ⟨3, ![1, 1, 1]⟩
abbrev S16x1 : Shape := ⟨2, ![16, 1]⟩
abbrev S256x4096 : Shape := ⟨2, ![256, 4096]⟩
abbrev S64x4096 : Shape := ⟨2, ![64, 4096]⟩
abbrev S256x1 : Shape := ⟨2, ![256, 1]⟩
abbrev S1x64 : Shape := ⟨2, ![1, 64]⟩
abbrev S4x64 : Shape := ⟨2, ![4, 64]⟩
abbrev S16x64 : Shape := ⟨2, ![16, 64]⟩
abbrev S64x64 : Shape := ⟨2, ![64, 64]⟩

abbrev nBuf : Space → Nat
  | .hbm => 48
  | .vmem => 21
  | .smem => 2
  | _ => 0

abbrev bufTy : (tb : Table) → Fin (tcTables nBuf tb) → BufTy
  | .hbm, ⟨0, _⟩ => ⟨S4x1x4096, .bf16⟩
  | .hbm, ⟨1, _⟩ => ⟨S4x1x4x64, .bf16⟩
  | .hbm, ⟨2, _⟩ => ⟨S4x1x4x64, .bf16⟩
  | .hbm, ⟨3, _⟩ => ⟨S4x32768x4x64, .fp8e4m3⟩
  | .hbm, ⟨4, _⟩ => ⟨S4, .f32⟩
  | .hbm, ⟨5, _⟩ => ⟨S4x32768x4x64, .fp8e4m3⟩
  | .hbm, ⟨6, _⟩ => ⟨S4, .f32⟩
  | .hbm, ⟨7, _⟩ => ⟨S4x64x64, .bf16⟩
  | .hbm, ⟨8, _⟩ => ⟨S64, .i32⟩
  | .hbm, ⟨9, _⟩ => ⟨S64x1, .i32⟩
  | .hbm, ⟨10, _⟩ => ⟨S_, .i32⟩
  | .hbm, ⟨11, _⟩ => ⟨S_, .i32⟩
  | .hbm, ⟨12, _⟩ => ⟨S64x1, .i32⟩
  | .hbm, ⟨13, _⟩ => ⟨S64x1, .i32⟩
  | .hbm, ⟨14, _⟩ => ⟨S64x1, .i32⟩
  | .hbm, ⟨15, _⟩ => ⟨S_, .i32⟩
  | .hbm, ⟨16, _⟩ => ⟨S64x1, .i32⟩
  | .hbm, ⟨17, _⟩ => ⟨S64x1, .i1⟩
  | .hbm, ⟨18, _⟩ => ⟨S64x1, .i32⟩
  | .hbm, ⟨19, _⟩ => ⟨S64x1, .i32⟩
  | .hbm, ⟨20, _⟩ => ⟨S_, .i32⟩
  | .hbm, ⟨21, _⟩ => ⟨S64x1, .i32⟩
  | .hbm, ⟨22, _⟩ => ⟨S64x1, .i1⟩
  | .hbm, ⟨23, _⟩ => ⟨S64x1, .i1⟩
  | .hbm, ⟨24, _⟩ => ⟨S_, .i32⟩
  | .hbm, ⟨25, _⟩ => ⟨S64x1, .i32⟩
  | .hbm, ⟨26, _⟩ => ⟨S64x1, .i32⟩
  | .hbm, ⟨27, _⟩ => ⟨S64x1, .i32⟩
  | .hbm, ⟨28, _⟩ => ⟨S4, .i32⟩
  | .hbm, ⟨29, _⟩ => ⟨S1x4, .i32⟩
  | .hbm, ⟨30, _⟩ => ⟨S64x4, .i32⟩
  | .hbm, ⟨31, _⟩ => ⟨S64x4, .i32⟩
  | .hbm, ⟨32, _⟩ => ⟨S64x4, .i1⟩
  | .hbm, ⟨33, _⟩ => ⟨S1x64x4x1, .i1⟩
  | .hbm, ⟨34, _⟩ => ⟨S4x64x1x64, .bf16⟩
  | .hbm, ⟨35, _⟩ => ⟨S_, .bf16⟩
  | .hbm, ⟨36, _⟩ => ⟨S4x64x4x64, .i1⟩
  | .hbm, ⟨37, _⟩ => ⟨S4x64x4x64, .bf16⟩
  | .hbm, ⟨38, _⟩ => ⟨S4x64x4x64, .bf16⟩
  | .hbm, ⟨39, _⟩ => ⟨S4x64x4x64, .bf16⟩
  | .hbm, ⟨40, _⟩ => ⟨S4x64x256, .bf16⟩
  | .hbm, ⟨41, _⟩ => ⟨S4x4x64x32768, .fp8e4m3⟩
  | .hbm, ⟨42, _⟩ => ⟨S4x256x32768, .fp8e4m3⟩
  | .hbm, ⟨43, _⟩ => ⟨S4x4x64x32768, .fp8e4m3⟩
  | .hbm, ⟨44, _⟩ => ⟨S4x256x32768, .fp8e4m3⟩
  | .hbm, ⟨45, _⟩ => ⟨S4x64x64, .bf16⟩
  | .hbm, ⟨46, _⟩ => ⟨S4x1x4x64, .fp8e4m3⟩
  | .hbm, ⟨47, _⟩ => ⟨S4x1x4x64, .fp8e4m3⟩
  | .local _ .vmem, ⟨0, _⟩ => ⟨S1x64x256, .bf16⟩
  | .local _ .vmem, ⟨1, _⟩ => ⟨S1x64x256, .bf16⟩
  | .local _ .vmem, ⟨2, _⟩ => ⟨S1x64x64, .bf16⟩
  | .local _ .vmem, ⟨3, _⟩ => ⟨S1x64x64, .bf16⟩
  | .local _ .vmem, ⟨4, _⟩ => ⟨S1x1x4x64, .bf16⟩
  | .local _ .vmem, ⟨5, _⟩ => ⟨S1x1x4x64, .bf16⟩
  | .local _ .vmem, ⟨6, _⟩ => ⟨S1x1x4x64, .bf16⟩
  | .local _ .vmem, ⟨7, _⟩ => ⟨S1x1x4x64, .bf16⟩
  | .local _ .vmem, ⟨8, _⟩ => ⟨S1x256x4096, .fp8e4m3⟩
  | .local _ .vmem, ⟨9, _⟩ => ⟨S1x256x4096, .fp8e4m3⟩
  | .local _ .vmem, ⟨10, _⟩ => ⟨S1x256x4096, .fp8e4m3⟩
  | .local _ .vmem, ⟨11, _⟩ => ⟨S1x256x4096, .fp8e4m3⟩
  | .local _ .vmem, ⟨12, _⟩ => ⟨S1x64x64, .bf16⟩
  | .local _ .vmem, ⟨13, _⟩ => ⟨S1x64x64, .bf16⟩
  | .local _ .vmem, ⟨14, _⟩ => ⟨S1x1x4x64, .fp8e4m3⟩
  | .local _ .vmem, ⟨15, _⟩ => ⟨S1x1x4x64, .fp8e4m3⟩
  | .local _ .vmem, ⟨16, _⟩ => ⟨S1x1x4x64, .fp8e4m3⟩
  | .local _ .vmem, ⟨17, _⟩ => ⟨S1x1x4x64, .fp8e4m3⟩
  | .local _ .vmem, ⟨18, _⟩ => ⟨S64x128, .f32⟩
  | .local _ .vmem, ⟨19, _⟩ => ⟨S64x128, .f32⟩
  | .local _ .vmem, ⟨20, _⟩ => ⟨S64x256, .f32⟩
  | .local _ .smem, ⟨0, _⟩ => ⟨S4, .f32⟩
  | .local _ .smem, ⟨1, _⟩ => ⟨S4, .f32⟩
  | _, _ => ⟨S4x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17_0 : Ref sig .tc := ⟨.hbm, 45, rfl⟩
abbrev main_v17_1 : Ref sig .tc := ⟨.hbm, 46, rfl⟩
abbrev main_v17_2 : Ref sig .tc := ⟨.hbm, 47, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 8], ![false, false]⟩

def k0_cond4 (i : grid0.Coords) : BitVec 1 :=
  let arg1 : BitVec 32 := BitVec.ofNat 32 (i 1).val
  let c7_i32 : BitVec 32 := 7#32
  let v261 : BitVec 1 := Scalar.cmpi .eq arg1 c7_i32
  let v262 : BitVec 32 := Scalar.extui v261
  let c0_i32_74 : BitVec 32 := 0#32
  let v263 : BitVec 1 := Scalar.cmpi .ne v262 c0_i32_74
  v263

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x4x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x4x64 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x4x64 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S4x1x4096 : Shape := ⟨3, ![4, 1, 4096]⟩
abbrev S4x1x4x64 : Shape := ⟨4, ![4, 1, 4, 64]⟩
abbrev S4x32768x4x64 : Shape := ⟨4, ![4, 32768, 4, 64]⟩
abbrev S4 : Shape := ⟨1, ![4]⟩
abbrev S16x16x64 : Shape := ⟨3, ![16, 16, 64]⟩
abbrev S4x4x1x64 : Shape := ⟨4, ![4, 4, 1, 64]⟩
abbrev S16x1x64 : Shape := ⟨3, ![16, 1, 64]⟩
abbrev S4x4x32768x64 : Shape := ⟨4, ![4, 4, 32768, 64]⟩
abbrev S16x32768x64 : Shape := ⟨3, ![16, 32768, 64]⟩
abbrev S1x4 : Shape := ⟨2, ![1, 4]⟩
abbrev S4x4 : Shape := ⟨2, ![4, 4]⟩
abbrev S16 : Shape := ⟨1, ![16]⟩
abbrev S16x1x1 : Shape := ⟨3, ![16, 1, 1]⟩
abbrev S4x64x64 : Shape := ⟨3, ![4, 64, 64]⟩
abbrev S16x16x32768 : Shape := ⟨3, ![16, 16, 32768]⟩
abbrev S16x16x1 : Shape := ⟨3, ![16, 16, 1]⟩
abbrev S16x16 : Shape := ⟨2, ![16, 16]⟩

abbrev nBuf : Space → Nat
  | .hbm => 27
  | .vmem => 10
  | .smem => 0
  | _ => 0

abbrev bufTy : (tb : Table) → Fin (tcTables nBuf tb) → BufTy
  | .hbm, ⟨0, _⟩ => ⟨S4x1x4096, .bf16⟩
  | .hbm, ⟨1, _⟩ => ⟨S4x1x4x64, .bf16⟩
  | .hbm, ⟨2, _⟩ => ⟨S4x1x4x64, .bf16⟩
  | .hbm, ⟨3, _⟩ => ⟨S4x32768x4x64, .fp8e4m3⟩
  | .hbm, ⟨4, _⟩ => ⟨S4, .f32⟩
  | .hbm, ⟨5, _⟩ => ⟨S4x32768x4x64, .fp8e4m3⟩
  | .hbm, ⟨6, _⟩ => ⟨S4, .f32⟩
  | .hbm, ⟨7, _⟩ => ⟨S16x16x64, .bf16⟩
  | .hbm, ⟨8, _⟩ => ⟨S4x4x1x64, .bf16⟩
  | .hbm, ⟨9, _⟩ => ⟨S16x1x64, .bf16⟩
  | .hbm, ⟨10, _⟩ => ⟨S4x4x1x64, .bf16⟩
  | .hbm, ⟨11, _⟩ => ⟨S16x1x64, .bf16⟩
  | .hbm, ⟨12, _⟩ => ⟨S4x4x32768x64, .fp8e4m3⟩
  | .hbm, ⟨13, _⟩ => ⟨S16x32768x64, .fp8e4m3⟩
  | .hbm, ⟨14, _⟩ => ⟨S1x4, .f32⟩
  | .hbm, ⟨15, _⟩ => ⟨S4x4, .f32⟩
  | .hbm, ⟨16, _⟩ => ⟨S16, .f32⟩
  | .hbm, ⟨17, _⟩ => ⟨S16x1x1, .f32⟩
  | .hbm, ⟨18, _⟩ => ⟨S4x4x32768x64, .fp8e4m3⟩
  | .hbm, ⟨19, _⟩ => ⟨S16x32768x64, .fp8e4m3⟩
  | .hbm, ⟨20, _⟩ => ⟨S1x4, .f32⟩
  | .hbm, ⟨21, _⟩ => ⟨S4x4, .f32⟩
  | .hbm, ⟨22, _⟩ => ⟨S16, .f32⟩
  | .hbm, ⟨23, _⟩ => ⟨S16x1x1, .f32⟩
  | .hbm, ⟨24, _⟩ => ⟨S4x64x64, .bf16⟩
  | .hbm, ⟨25, _⟩ => ⟨S4x1x4x64, .fp8e4m3⟩
  | .hbm, ⟨26, _⟩ => ⟨S4x1x4x64, .fp8e4m3⟩
  | .local _ .vmem, ⟨0, _⟩ => ⟨S16x16x64, .bf16⟩
  | .local _ .vmem, ⟨1, _⟩ => ⟨S16x1x64, .bf16⟩
  | .local _ .vmem, ⟨2, _⟩ => ⟨S16x1x64, .bf16⟩
  | .local _ .vmem, ⟨3, _⟩ => ⟨S16x32768x64, .fp8e4m3⟩
  | .local _ .vmem, ⟨4, _⟩ => ⟨S16x1x1, .f32⟩
  | .local _ .vmem, ⟨5, _⟩ => ⟨S16x32768x64, .fp8e4m3⟩
  | .local _ .vmem, ⟨6, _⟩ => ⟨S16x1x1, .f32⟩
  | .local _ .vmem, ⟨7, _⟩ => ⟨S4x64x64, .bf16⟩
  | .local _ .vmem, ⟨8, _⟩ => ⟨S4x1x4x64, .fp8e4m3⟩
  | .local _ .vmem, ⟨9, _⟩ => ⟨S4x1x4x64, .fp8e4m3⟩
  | _, _ => ⟨S4x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S16x16x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32768x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x32768x64 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1x4x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1x4x64 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kernel.Step.lean ====
/-
  What one grid point of the attention kernel does, as functions of the blocks it is handed and of the scratch the
  point before left: the quantiser-exactness bit, the two ways of updating the running maximum, the running sum and
  the running numerator, and the three blocks the last point of a sequence writes out. Nothing is proved here but
  the spelling of the branch conditions; `Run` shows that the printed body computes these functions.
-/
module

public import proofs.«01_k».proof.Proof.Gen.Kernel.Frame
public import proofs.«01_k».proof.Proof.Gen.Kernel.Skeleton
public import proofs.«01_k».proof.Proof.Gen.Kernel.Points
public import Idealize.ShloMosaic.Lib.Tactic
public import Idealize.ShloMosaic.Lib.VecWindow
public import Idealize.ShloMosaic.Lib.Pipeline.FrameBody

@[expose] public section

noncomputable section

namespace Cert.Kernel.Run

open Cert.Kernel Cert.Kernel.Gen
open Idealize.ShloMosaic Idealize.ShloMosaic.TcCoe

variable {F : FTy → Type} [FloatOps F]

/-- The blocks the body is handed at a grid point: the two scale vectors, the block-diagonal query, the plain query, the new
    key and value rows and the transposed tiles of the two caches. -/
structure Ins (F : FTy → Type) where
  ks : Vec F S4 .f32
  vs : Vec F S4 .f32
  qbd : Vec F S1x64x256 .bf16
  q : Vec F S1x64x64 .bf16
  kn : Vec F S1x1x4x64 .bf16
  vn : Vec F S1x1x4x64 .bf16
  kt : Vec F S1x256x4096 .fp8e4m3
  vt : Vec F S1x256x4096 .fp8e4m3

/-- The scratch the kernel carries from a grid point to the next: the running maximum and the running sum (in every column
    of a 128-wide buffer) and the running numerator. -/
structure St (F : FTy → Type) where
  m : Vec F S64x128 .f32
  l : Vec F S64x128 .f32
  a : Vec F S64x256 .f32

/-- The one index of a one-word block. -/
abbrev i1 : S1.Idx := Shape.Idx.first (s := S1) (numel1_S1.symm ▸ Nat.one_pos)

/-- The four words of a scale vector. -/
abbrev w0 (x : Vec F S4 .f32) : F .f32 := View.ld (Val := Elt F) (e' := .f32) x (Rect.unit (s := S4) ![0] S1.size inb_S4_S1_0) i1
abbrev w1 (x : Vec F S4 .f32) : F .f32 := View.ld (Val := Elt F) (e' := .f32) x (Rect.unit (s := S4) ![1] S1.size inb_S4_S1_1) i1
abbrev w2 (x : Vec F S4 .f32) : F .f32 := View.ld (Val := Elt F) (e' := .f32) x (Rect.unit (s := S4) ![2] S1.size inb_S4_S1_2) i1
abbrev w3 (x : Vec F S4 .f32) : F .f32 := View.ld (Val := Elt F) (e' := .f32) x (Rect.unit (s := S4) ![3] S1.size inb_S4_S1_3) i1

/-- The first column of a 128-wide scratch buffer, as the body loads it. -/
abbrev col (x : Vec F S64x128 .f32) : Vec F S64x1 .f32 := View.ld (Val := Elt F) (e' := .f32) x (Rect.unit (s := S64x128) ![0, 0] S64x1.size inb_S64x128_S64x1_0_0)

omit [FloatOps F] in
/-- A load of a whole block reads the block. -/
theorem ld_full {s : Shape} {e : EltTy} (x : s.Idx → Elt F e) {off : Fin s.rank → ℕ} (inb : ∀ a, off a + s.size a ≤ s.size a) :
    View.ld (Val := Elt F) (e' := e) x (Rect.unit off s.size inb) = x := by
  funext y
  exact congrArg x (funext fun a => Fin.ext (by
    show off a + 1 * (y a).val = (y a).val
    have := inb a; omega))

/-- The whole-block load of a `S1x64x256` block, as the body spells it, -/
def lqbd (x : Vec F S1x64x256 .bf16) : Vec F S1x64x256 .bf16 := View.ld (Val := Elt F) (e' := .bf16) x (Rect.unit (s := S1x64x256) ![0, 0, 0] S1x64x256.size inb_S1x64x256_S1x64x256_0_0_0)
omit [FloatOps F] in
/-- is the block. -/
theorem lqbd_eq (x : Vec F S1x64x256 .bf16) : lqbd x = x := ld_full (e := .bf16) x _

/-- The whole-block load of a `S1x64x64` block, as the body spells it, -/
def lq (x : Vec F S1x64x64 .bf16) : Vec F S1x64x64 .bf16 := View.ld (Val := Elt F) (e' := .bf16) x (Rect.unit (s := S1x64x64) ![0, 0, 0] S1x64x64.size inb_S1x64x64_S1x64x64_0_0_0)
omit [FloatOps F] in
/-- is the block. -/
theorem lq_eq (x : Vec F S1x64x64 .bf16) : lq x = x := ld_full (e := .bf16) x _

/-- The whole-block load of a `S1x1x4x64` block, as the body spells it, -/
def ln (x : Vec F S1x1x4x64 .bf16) : Vec F S1x1x4x64 .bf16 := View.ld (Val := Elt F) (e' := .bf16) x (Rect.unit (s := S1x1x4x64) ![0, 0, 0, 0] S1x1x4x64.size inb_S1x1x4x64_S1x1x4x64_0_0_0_0)
omit [FloatOps F] in
/-- is the block. -/
theorem ln_eq (x : Vec F S1x1x4x64 .bf16) : ln x = x := ld_full (e := .bf16) x _

/-- The whole-block load of a `S1x256x4096` block, as the body spells it, -/
def lt (x : Vec F S1x256x4096 .fp8e4m3) : Vec F S1x256x4096 .fp8e4m3 := View.ld (Val := Elt F) (e' := .fp8e4m3) x (Rect.unit (s := S1x256x4096) ![0, 0, 0] S1x256x4096.size inb_S1x256x4096_S1x256x4096_0_0_0)
omit [FloatOps F] in
/-- is the block. -/
theorem lt_eq (x : Vec F S1x256x4096 .fp8e4m3) : lt x = x := ld_full (e := .fp8e4m3) x _

/-- The whole-block load of a `S64x256` block, as the body spells it, -/
def la (x : Vec F S64x256 .f32) : Vec F S64x256 .f32 := View.ld (Val := Elt F) (e' := .f32) x (Rect.unit (s := S64x256) ![0, 0] S64x256.size inb_S64x256_S64x256_0_0)
omit [FloatOps F] in
/-- is the block. -/
theorem la_eq (x : Vec F S64x256 .f32) : la x = x := ld_full (e := .f32) x _

omit [FloatOps F] in
/-- A store over a whole scratch buffer leaves what was stored. -/
theorem wr_S64x128 (v : View sig .tc .vmem S64x128 .f32) (f : v.ty.Contents (Elt F)) (w : S64x128.Idx → Elt F .f32) (L : List (View.Piece (Elt F) S64x128 .f32)) :
    v.read (Elt F) (v.writes (Elt F) f (⟨Rect.unit ![0, 0] S64x128.size inb_S64x128_S64x128_0_0, w⟩ :: L)) = w := View.read_writes_full v f _ w L

omit [FloatOps F] in
/-- A store over a whole scratch buffer leaves what was stored. -/
theorem wr_S64x256 (v : View sig .tc .vmem S64x256 .f32) (f : v.ty.Contents (Elt F)) (w : S64x256.Idx → Elt F .f32) (L : List (View.Piece (Elt F) S64x256 .f32)) :
    v.read (Elt F) (v.writes (Elt F) f (⟨Rect.unit ![0, 0] S64x256.size inb_S64x256_S64x256_0_0, w⟩ :: L)) = w := View.read_writes_full v f _ w L

/-- The exactness bit of eight scale words: the conjunction of the eight comparisons the body makes. -/
abbrev exW (a b c d e f g h : F .f32) : BitVec 1 :=
  Scalar.andi (Scalar.andi (Scalar.andi (Scalar.andi (Scalar.andi (Scalar.andi (Scalar.andi
    (Scalar.cmpf .ogt (k0_pay26 a) (Scalar.ofBits .f32 0x00000000#32))
    (Scalar.cmpf .ogt (k0_pay30 (k0_pay27 b) k0_pay28 (k0_pay29 (F := F))) (Scalar.ofBits .f32 0x00000000#32)))
    (Scalar.cmpf .ogt (k0_pay31 c) (Scalar.ofBits .f32 0x00000000#32)))
    (Scalar.cmpf .ogt (k0_pay32 d) (Scalar.ofBits .f32 0x00000000#32)))
    (Scalar.cmpf .ogt (k0_pay36 (F := F) (k0_pay34 e) k0_pay35) (Scalar.ofBits .f32 0x00000000#32)))
    (Scalar.cmpf .ogt (k0_pay37 f) (Scalar.ofBits .f32 0x00000000#32)))
    (Scalar.cmpf .ogt (k0_pay40 (k0_pay38 g) k0_pay39 (iota .tc S2x128 32 [1] iota_S2x128_d1_w32)) (Scalar.ofBits .f32 0x00000000#32)))
    (Scalar.cmpf .ogt (k0_pay42 (k0_pay41 h)) (Scalar.ofBits .f32 0x00000000#32))

/-- The exactness bit of the two scale vectors. -/
abbrev exBit (ks vs : Vec F S4 .f32) : BitVec 1 := exW (w0 ks) (w1 ks) (w2 ks) (w3 ks) (w0 vs) (w1 vs) (w2 vs) (w3 vs)

/-- The body's branch conditions: the first tile of a sequence, the exact branch, the other branch, the last tile. -/
abbrev cFst (i : grid0.Coords) : Prop := Scalar.cmpi .ne (Scalar.extui (Scalar.cmpi .eq (BitVec.ofNat 32 (i 1).val) 0#32)) 0#32 = 1#1
abbrev cEx (b : BitVec 1) : Prop := Scalar.cmpi .ne (Scalar.extui b) 0#32 = 1#1
abbrev cGen (b : BitVec 1) : Prop := Scalar.cmpi .ne (Scalar.extui (Scalar.xori b 1#1)) 0#32 = 1#1
abbrev cLst (i : grid0.Coords) : Prop := k0_cond4 i = 1#1

/-- The exact branch is taken when the bit is one, -/
theorem cEx_iff (b : BitVec 1) : cEx b ↔ b = 1#1 := by revert b; decide
/-- and the other branch otherwise. -/
theorem cGen_iff (b : BitVec 1) : cGen b ↔ ¬ b = 1#1 := by revert b; decide

/-- The first tile of a sequence is at the points divisible by eight, -/
theorem cFst_iff (t : Fin cfg0.N) : cFst (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cFst, e0, e1]
    word_cmp
   : ∀ t : Fin grid0.N, cFst (grid0.coords t) ↔ t.val % 8 = 0) t
/-- and the last one at those that are 7 modulo eight. -/
theorem cLst_iff (t : Fin cfg0.N) : cLst (grid0.coords t) ↔ t.val % 8 = 7 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cLst, k0_cond4, e0, e1]
    word_cmp
   : ∀ t : Fin grid0.N, cLst (grid0.coords t) ↔ t.val % 8 = 7) t

/-- The scratch a sequence starts from. -/
def init : St F := ⟨k0_pay23, k0_pay24, k0_pay25⟩

/-- The update of the exact branch: the codes go through the matrix products unscaled. -/
def stepEx (b : Ins F) (s : St F) : St F where
  m := k0_pay45 (k0_pay8 (k0_pay43 (w0 b.ks) (w1 b.ks) (w2 b.ks) (w3 b.ks)) (lt b.kt) (lqbd b.qbd) (col s.m))
  l := k0_pay46 (k0_pay6 (k0_pay43 (w0 b.ks) (w1 b.ks) (w2 b.ks) (w3 b.ks)) (lt b.kt) (lqbd b.qbd) (col s.m) (col s.l))
  a := k0_pay7 (k0_pay43 (w0 b.ks) (w1 b.ks) (w2 b.ks) (w3 b.ks)) (lt b.kt) (lt b.vt) (lqbd b.qbd) (col s.m) (la s.a)

/-- The update of the other branch: the tiles are scaled before the matrix products. -/
def stepGen (b : Ins F) (s : St F) : St F where
  m := k0_pay51 (col s.m) (k0_pay11 (w0 b.ks) (w1 b.ks) (w2 b.ks) (w3 b.ks) (lt b.kt) (lqbd b.qbd))
  l := k0_pay52 (k0_pay10 (w0 b.ks) (w1 b.ks) (w2 b.ks) (w3 b.ks) (lt b.kt) (lqbd b.qbd)) (col s.m)
    (k0_pay11 (w0 b.ks) (w1 b.ks) (w2 b.ks) (w3 b.ks) (lt b.kt) (lqbd b.qbd)) (col s.l)
  a := k0_pay50 (k0_pay9 (w0 b.vs) (w1 b.vs) (w2 b.vs) (w3 b.vs) (lt b.vt)) (k0_pay10 (w0 b.ks) (w1 b.ks) (w2 b.ks) (w3 b.ks) (lt b.kt) (lqbd b.qbd))
    (col s.m) (k0_pay11 (w0 b.ks) (w1 b.ks) (w2 b.ks) (w3 b.ks) (lt b.kt) (lqbd b.qbd)) (la s.a)

/-- The update of a grid point past the initialisation. -/
def upd (b : Ins F) (s : St F) : St F := if exBit b.ks b.vs = 1#1 then stepEx b s else stepGen b s

/-- The quantised new key row, as the last point writes it out. -/
def outK (b : Ins F) : Vec F S1x1x4x64 .fp8e4m3 := k0_pay19 (k0_pay13 (w0 b.ks) (w1 b.ks) (w2 b.ks) (w3 b.ks) (ln b.kn))
/-- The quantised new value row. -/
def outV (b : Ins F) : Vec F S1x1x4x64 .fp8e4m3 := k0_pay20 (k0_pay16 (w0 b.vs) (w1 b.vs) (w2 b.vs) (w3 b.vs) (ln b.vn))

/-- The attention result of a sequence, from the scratch as the last point leaves it. -/
def outY (b : Ins F) (s : St F) : Vec F S1x64x64 .bf16 :=
  k0_pay1 (k0_pay18 (k0_pay15 (w0 b.vs) (w1 b.vs) (w2 b.vs) (w3 b.vs)) (k0_pay17 (w0 b.vs) (w1 b.vs) (w2 b.vs) (w3 b.vs) (ln b.vn)))
    (k0_pay21 (exBit b.ks b.vs) (k0_pay44 (w0 b.vs) (w1 b.vs) (w2 b.vs) (w3 b.vs))
      (View.ld (Val := Elt F) (e' := .f32) s.a (Rect.unit (s := S64x256) ![0, 0] S16x64.size inb_S64x256_S16x64_0_0))
      (View.ld (Val := Elt F) (e' := .f32) s.a (Rect.unit (s := S64x256) ![16, 64] S16x64.size inb_S64x256_S16x64_16_64))
      (View.ld (Val := Elt F) (e' := .f32) s.a (Rect.unit (s := S64x256) ![32, 128] S16x64.size inb_S64x256_S16x64_32_128))
      (View.ld (Val := Elt F) (e' := .f32) s.a (Rect.unit (s := S64x256) ![48, 192] S16x64.size inb_S64x256_S16x64_48_192)))
    (k0_pay22 (k0_pay14 (w0 b.ks) (w1 b.ks) (w2 b.ks) (w3 b.ks) (ln b.kn)) (lq b.q))
    (col s.m) (col s.l)

end Cert.Kernel.Run

end
-- ==== Proof.Kernel.Run.lean ====
/-
  The printed body of the attention kernel run on any whole staging buffers: at the first tile of a sequence, at a tile
  in the middle and at the last tile, the scratch ends at `upd` of what it held (of `init` at the first tile) and
  the three output buffers are left alone, or at the last tile end at `outY`, `outK` and `outV`.
-/
module

public import proofs.«01_k».proof.Proof.Kernel.Step
public import Idealize.ShloMosaic.Lib.Pipeline.ReadBack
public import Idealize.ShloMosaic.Lib.Tactic.Stretches

@[expose] public section

set_option maxRecDepth 4000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .smem S4 .f32) (harg2 : arg2.IsWhole)
  (arg3 : Memref sig .tc .smem S4 .f32) (harg3 : arg3.IsWhole)
  (arg4 : Memref sig .tc .vmem S1x64x256 .bf16) (harg4 : arg4.IsWhole)
  (arg5 : Memref sig .tc .vmem S1x64x64 .bf16) (harg5 : arg5.IsWhole)
  (arg6 : Memref sig .tc .vmem S1x1x4x64 .bf16) (harg6 : arg6.IsWhole)
  (arg7 : Memref sig .tc .vmem S1x1x4x64 .bf16) (harg7 : arg7.IsWhole)
  (arg8 : Memref sig .tc .vmem S1x256x4096 .fp8e4m3) (harg8 : arg8.IsWhole)
  (arg9 : Memref sig .tc .vmem S1x256x4096 .fp8e4m3) (harg9 : arg9.IsWhole)
  (arg10 : Memref sig .tc .vmem S1x64x64 .bf16) (harg10 : arg10.IsWhole)
  (arg11 : Memref sig .tc .vmem S1x1x4x64 .fp8e4m3) (harg11 : arg11.IsWhole)
  (arg12 : Memref sig .tc .vmem S1x1x4x64 .fp8e4m3) (harg12 : arg12.IsWhole)
  (arg13 : Memref sig .tc .vmem S64x128 .f32) (harg13 : arg13.IsWhole)
  (arg14 : Memref sig .tc .vmem S64x128 .f32) (harg14 : arg14.IsWhole)
  (arg15 : Memref sig .tc .vmem S64x256 .f32) (harg15 : arg15.IsWhole)

set_option maxHeartbeats 4000000 in
/-- A middle tile in the exact branch. -/
theorem runMidEx (hc0 : ¬cFst i) (hc3 : ¬cLst i) (b : Ins F) (s : St F) (y : Vec F S1x64x64 .bf16) (kc vc : Vec F S1x1x4x64 .fp8e4m3) (he : exBit b.ks b.vs = 1#1)
    (E : Set ℕ) (K : PUnit → sProp 𝕄) :
    iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare y ∗ owns (c : Thread nD τ) arg11 fullShare kc ∗ owns (c : Thread nD τ) arg12 fullShare vc ∗ owns (c : Thread nD τ) arg13 fullShare s.m ∗ owns (c : Thread nD τ) arg14 fullShare s.l ∗ owns (c : Thread nD τ) arg15 fullShare s.a
        ∗ (iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare y ∗ owns (c : Thread nD τ) arg11 fullShare kc ∗ owns (c : Thread nD τ) arg12 fullShare vc ∗ owns (c : Thread nD τ) arg13 fullShare (stepEx b s).m ∗ owns (c : Thread nD τ) arg14 fullShare (stepEx b s).l ∗ owns (c : Thread nD τ) arg15 fullShare (stepEx b s).a) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  obtain ⟨ks, vs, qbd, q, kn, vn, kt, vt⟩ := b
  obtain ⟨xm, xl, xa⟩ := s
  dsimp only at he ⊢
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
  subst hf0 hf1 hf2 hf3 hf4 hf5 hf6 hf7 hf8 hf9 hf10 hfs0 hfs1 hfs2
  have hc1 := (cEx_iff _).mpr he
  have hc2 := fun h => (cGen_iff _).mp h he
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [HS0]
  · iexists _; isplitr
    swap; · iexact HS0
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [HS1]
  · iexists _; isplitr
    swap; · iexact HS1
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  · iexists _; isplitr
    swap; · iexact HS2
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))

set_option maxHeartbeats 4000000 in
/-- A middle tile in the other branch. -/
theorem runMidGen (hc0 : ¬cFst i) (hc3 : ¬cLst i) (b : Ins F) (s : St F) (y : Vec F S1x64x64 .bf16) (kc vc : Vec F S1x1x4x64 .fp8e4m3) (he : ¬exBit b.ks b.vs = 1#1)
    (E : Set ℕ) (K : PUnit → sProp 𝕄) :
    iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare y ∗ owns (c : Thread nD τ) arg11 fullShare kc ∗ owns (c : Thread nD τ) arg12 fullShare vc ∗ owns (c : Thread nD τ) arg13 fullShare s.m ∗ owns (c : Thread nD τ) arg14 fullShare s.l ∗ owns (c : Thread nD τ) arg15 fullShare s.a
        ∗ (iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare y ∗ owns (c : Thread nD τ) arg11 fullShare kc ∗ owns (c : Thread nD τ) arg12 fullShare vc ∗ owns (c : Thread nD τ) arg13 fullShare (stepGen b s).m ∗ owns (c : Thread nD τ) arg14 fullShare (stepGen b s).l ∗ owns (c : Thread nD τ) arg15 fullShare (stepGen b s).a) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  obtain ⟨ks, vs, qbd, q, kn, vn, kt, vt⟩ := b
  obtain ⟨xm, xl, xa⟩ := s
  dsimp only at he ⊢
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
  subst hf0 hf1 hf2 hf3 hf4 hf5 hf6 hf7 hf8 hf9 hf10 hfs0 hfs1 hfs2
  have hc1 := fun h => he ((cEx_iff _).mp h)
  have hc2 := (cGen_iff _).mpr he
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [HS0]
  · iexists _; isplitr
    swap; · iexact HS0
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [HS1]
  · iexists _; isplitr
    swap; · iexact HS1
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  · iexists _; isplitr
    swap; · iexact HS2
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))

set_option maxHeartbeats 4000000 in
/-- The first tile in the exact branch. -/
theorem runFstEx (hc0 : cFst i) (hc3 : ¬cLst i) (b : Ins F) (y : Vec F S1x64x64 .bf16) (kc vc : Vec F S1x1x4x64 .fp8e4m3) (he : exBit b.ks b.vs = 1#1)
    (E : Set ℕ) (K : PUnit → sProp 𝕄) :
    iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare y ∗ owns (c : Thread nD τ) arg11 fullShare kc ∗ owns (c : Thread nD τ) arg12 fullShare vc ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare y ∗ owns (c : Thread nD τ) arg11 fullShare kc ∗ owns (c : Thread nD τ) arg12 fullShare vc ∗ owns (c : Thread nD τ) arg13 fullShare (stepEx b init).m ∗ owns (c : Thread nD τ) arg14 fullShare (stepEx b init).l ∗ owns (c : Thread nD τ) arg15 fullShare (stepEx b init).a) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  obtain ⟨ks, vs, qbd, q, kn, vn, kt, vt⟩ := b
  dsimp only at he ⊢
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, Hk⟩
  subst hf0 hf1 hf2 hf3 hf4 hf5 hf6 hf7 hf8 hf9 hf10
  have hc1 := (cEx_iff _).mpr he
  have hc2 := fun h => (cGen_iff _).mp h he
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [HS0]
  · iexists _; isplitr
    swap; · iexact HS0
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [HS1]
  · iexists _; isplitr
    swap; · iexact HS1
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  · iexists _; isplitr
    swap; · iexact HS2
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))

set_option maxHeartbeats 4000000 in
/-- The first tile in the other branch. -/
theorem runFstGen (hc0 : cFst i) (hc3 : ¬cLst i) (b : Ins F) (y : Vec F S1x64x64 .bf16) (kc vc : Vec F S1x1x4x64 .fp8e4m3) (he : ¬exBit b.ks b.vs = 1#1)
    (E : Set ℕ) (K : PUnit → sProp 𝕄) :
    iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare y ∗ owns (c : Thread nD τ) arg11 fullShare kc ∗ owns (c : Thread nD τ) arg12 fullShare vc ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare y ∗ owns (c : Thread nD τ) arg11 fullShare kc ∗ owns (c : Thread nD τ) arg12 fullShare vc ∗ owns (c : Thread nD τ) arg13 fullShare (stepGen b init).m ∗ owns (c : Thread nD τ) arg14 fullShare (stepGen b init).l ∗ owns (c : Thread nD τ) arg15 fullShare (stepGen b init).a) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  obtain ⟨ks, vs, qbd, q, kn, vn, kt, vt⟩ := b
  dsimp only at he ⊢
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, Hk⟩
  subst hf0 hf1 hf2 hf3 hf4 hf5 hf6 hf7 hf8 hf9 hf10
  have hc1 := fun h => he ((cEx_iff _).mp h)
  have hc2 := (cGen_iff _).mpr he
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [HS0]
  · iexists _; isplitr
    swap; · iexact HS0
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [HS1]
  · iexists _; isplitr
    swap; · iexact HS1
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  · iexists _; isplitr
    swap; · iexact HS2
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))

set_option maxHeartbeats 4000000 in
/-- The last tile in the exact branch. -/
theorem runLstEx (hc0 : ¬cFst i) (hc3 : cLst i) (b : Ins F) (s : St F) (he : exBit b.ks b.vs = 1#1)
    (E : Set ℕ) (K : PUnit → sProp 𝕄) :
    iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s.m ∗ owns (c : Thread nD τ) arg14 fullShare s.l ∗ owns (c : Thread nD τ) arg15 fullShare s.a
        ∗ (iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare (outY b (stepEx b s)) ∗ owns (c : Thread nD τ) arg11 fullShare (outK b) ∗ owns (c : Thread nD τ) arg12 fullShare (outV b) ∗ owns (c : Thread nD τ) arg13 fullShare (stepEx b s).m ∗ owns (c : Thread nD τ) arg14 fullShare (stepEx b s).l ∗ owns (c : Thread nD τ) arg15 fullShare (stepEx b s).a) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  obtain ⟨ks, vs, qbd, q, kn, vn, kt, vt⟩ := b
  obtain ⟨xm, xl, xa⟩ := s
  dsimp only at he ⊢
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, Hk⟩
  subst hf0 hf1 hf2 hf3 hf4 hf5 hf6 hf7 hfs0 hfs1 hfs2
  have hc1 := (cEx_iff _).mpr he
  have hc2 := fun h => (cGen_iff _).mp h he
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [H9]
  · iexists _; isplitr
    swap; · iexact H9
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [H10]
  · iexists _; isplitr
    swap; · iexact H10
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [HS0]
  · iexists _; isplitr
    swap; · iexact HS0
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [HS1]
  · iexists _; isplitr
    swap; · iexact HS1
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  · iexists _; isplitr
    swap; · iexact HS2
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))

set_option maxHeartbeats 4000000 in
/-- The last tile in the other branch. -/
theorem runLstGen (hc0 : ¬cFst i) (hc3 : cLst i) (b : Ins F) (s : St F) (he : ¬exBit b.ks b.vs = 1#1)
    (E : Set ℕ) (K : PUnit → sProp 𝕄) :
    iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s.m ∗ owns (c : Thread nD τ) arg14 fullShare s.l ∗ owns (c : Thread nD τ) arg15 fullShare s.a
        ∗ (iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare (outY b (stepGen b s)) ∗ owns (c : Thread nD τ) arg11 fullShare (outK b) ∗ owns (c : Thread nD τ) arg12 fullShare (outV b) ∗ owns (c : Thread nD τ) arg13 fullShare (stepGen b s).m ∗ owns (c : Thread nD τ) arg14 fullShare (stepGen b s).l ∗ owns (c : Thread nD τ) arg15 fullShare (stepGen b s).a) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  obtain ⟨ks, vs, qbd, q, kn, vn, kt, vt⟩ := b
  obtain ⟨xm, xl, xa⟩ := s
  dsimp only at he ⊢
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, Hk⟩
  subst hf0 hf1 hf2 hf3 hf4 hf5 hf6 hf7 hfs0 hfs1 hfs2
  have hc1 := fun h => he ((cEx_iff _).mp h)
  have hc2 := (cGen_iff _).mpr he
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [H9]
  · iexists _; isplitr
    swap; · iexact H9
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [H10]
  · iexists _; isplitr
    swap; · iexact H10
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [HS0]
  · iexists _; isplitr
    swap; · iexact HS0
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [HS1]
  · iexists _; isplitr
    swap; · iexact HS1
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  · iexists _; isplitr
    swap; · iexact HS2
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))

end Cert.Kernel.Run

end
-- ==== Proof.Kernel.Body.lean ====
/-
  The frame of the attention kernel: the scratch a grid point leaves, point by point (`stAt`), the proof data of
  the pipeline, the body at every point of the grid, and from these the run of the whole program (`run_main`) and the
  frame claim (`frame`).
-/
module

public import proofs.«01_k».proof.Proof.Kernel.Run
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the body is handed at point `t`. -/
def ins (c : Dev nD) (t : Fin cfg0.N) : Ins F where
  ks := iblk m c 0 t
  vs := iblk m c 1 t
  qbd := iblk m c 2 t
  q := iblk m c 3 t
  kn := iblk m c 4 t
  vn := iblk m c 5 t
  kt := iblk m c 6 t
  vt := iblk m c 7 t

/-- The scratch after point `n`: a sequence's first point starts from `init`, every other from what the point before left. -/
def stAt (c : Dev nD) : (n : ℕ) → n < cfg0.N → St F
  | 0, h => upd (ins m c ⟨0, h⟩) init
  | n + 1, h => upd (ins m c ⟨n + 1, h⟩) (if (n + 1) % 8 = 0 then init else stAt c n (Nat.lt_of_succ_lt h))

/-- At a sequence's first point. -/
theorem stAt_first (c : Dev nD) (t : Fin cfg0.N) (h : t.val % 8 = 0) : stAt m c t.val t.isLt = upd (ins m c t) init := by
  obtain ⟨n, hn⟩ := t
  cases n with
  | zero => rfl
  | succ n => exact congrArg (upd _) (if_pos h)

/-- At any other point. -/
theorem stAt_next (c : Dev nD) (t : Fin cfg0.N) (h : ¬t.val % 8 = 0) :
    stAt m c t.val t.isLt = upd (ins m c t) (stAt m c (t.val - 1) (Nat.lt_of_le_of_lt (Nat.sub_le _ _) t.isLt)) := by
  obtain ⟨n, hn⟩ := t
  cases n with
  | zero => exact absurd rfl h
  | succ n => exact congrArg (upd _) (if_neg h)

/-- The scratch operands, as memrefs. -/
abbrev scM0_0 : Memref sig .tc .vmem S64x128 .f32 := Memref.whole cc0_scratch0
abbrev scM0_1 : Memref sig .tc .vmem S64x128 .f32 := Memref.whole cc0_scratch1
abbrev scM0_2 : Memref sig .tc .vmem S64x256 .f32 := Memref.whole cc0_scratch2

/-- Each window's current staging memref at point `t`, and its wholeness. -/
abbrev ms0_0 (t : Fin cfg0.N) : Memref sig .tc .smem S4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x4x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x4x64 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x4096 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64x64 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x4x64 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x4x64 .fp8e4m3 := win0_10.stage (cfg0.slots t 10)
abbrev hs0_10 (t : Fin cfg0.N) : (ms0_10 t).IsWhole := hstage0_10 ((cfg0.slots t 10).cast nbuf0_10)

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
/-- The outputs are idle except at the last tile of a sequence, where they are written back. -/
theorem liveAt0_8 : ∀ t : Fin cfg0.N, t.val % 8 = 7 → cfg0.idle 8 (grid0.coords t) = false := by decide +kernel
theorem idleAt0_8 : ∀ t : Fin cfg0.N, ¬t.val % 8 = 7 → cfg0.idle 8 (grid0.coords t) = true := by decide +kernel
theorem noFlush0_8 : ∀ t : Fin cfg0.N, ¬t.val % 8 = 7 → (cfg0.win 8).flush t = false := fun t h => Bool.eq_false_iff.mpr fun hf => h ((flush0_8 t).mp hf)
theorem liveAt0_9 : ∀ t : Fin cfg0.N, t.val % 8 = 7 → cfg0.idle 9 (grid0.coords t) = false := by decide +kernel
theorem idleAt0_9 : ∀ t : Fin cfg0.N, ¬t.val % 8 = 7 → cfg0.idle 9 (grid0.coords t) = true := by decide +kernel
theorem noFlush0_9 : ∀ t : Fin cfg0.N, ¬t.val % 8 = 7 → (cfg0.win 9).flush t = false := fun t h => Bool.eq_false_iff.mpr fun hf => h ((flush0_9 t).mp hf)
theorem liveAt0_10 : ∀ t : Fin cfg0.N, t.val % 8 = 7 → cfg0.idle 10 (grid0.coords t) = false := by decide +kernel
theorem idleAt0_10 : ∀ t : Fin cfg0.N, ¬t.val % 8 = 7 → cfg0.idle 10 (grid0.coords t) = true := by decide +kernel
theorem noFlush0_10 : ∀ t : Fin cfg0.N, ¬t.val % 8 = 7 → (cfg0.win 10).flush t = false := fun t h => Bool.eq_false_iff.mpr fun hf => h ((flush0_10 t).mp hf)

/-- The launch's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant before position `n`: at the start the scratch holds anything, afterwards what the point before left. -/
def PhiS (c : Dev nD) : (n : ℕ) → n ≤ cfg0.N → sProp 𝕄
  | 0, _ => Pipeline.ΦA spec0 c
  | n + 1, hn => iprop(iprop(owns (c : Thread nD τ) scM0_0 fullShare (stAt m c n hn).m ∗ owns (c : Thread nD τ) scM0_1 fullShare (stAt m c n hn).l ∗ owns (c : Thread nD τ) scM0_2 fullShare (stAt m c n hn).a) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (stAt m c n hn).m ∗ owns (c : Thread nD τ) scM0_1 fullShare (stAt m c n hn).l ∗ owns (c : Thread nD τ) scM0_2 fullShare (stAt m c n hn).a) ∗ (∃ r, prngReg c r)) := rfl

theorem PhiS_pos (c : Dev nD) (n : ℕ) (h : n ≤ cfg0.N) (hz : n ≠ 0) :
    PhiS m c n h = iprop(iprop(owns (c : Thread nD τ) scM0_0 fullShare (stAt m c (n - 1) (by omega)).m ∗ owns (c : Thread nD τ) scM0_1 fullShare (stAt m c (n - 1) (by omega)).l ∗ owns (c : Thread nD τ) scM0_2 fullShare (stAt m c (n - 1) (by omega)).a) ∗ (∃ r, prngReg c r)) := by
  cases n with
  | zero => exact absurd rfl hz
  | succ n => rfl

/-- The proof data of the pipeline on core `c`: the arrays as the region finds them, each input's buffer left at its block,
    the outputs' at what the last point of the sequence writes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outY (ins m c t) (stAt m c t.val t.isLt)
    | ⟨9, _⟩ => outK (ins m c t)
    | ⟨10, _⟩ => outV (ins m c t)
  Φ t := PhiS m c t.val (Nat.le_of_lt_succ t.isLt)
  q _ := fullShare
  owed _ := 0

/-- The proof data's arrays are the contents the region finds. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outY (ins m c t) (stAt m c t.val t.isLt) := by dsimp only [dats]
theorem after0_9 (c : Dev nD) (t : Fin cfg0.N) : (dats m 0 c).after 9 t = outK (ins m c t) := by dsimp only [dats]
theorem after0_10 (c : Dev nD) (t : Fin cfg0.N) : (dats m 0 c).after 10 t = outV (ins m c t) := by dsimp only [dats]
/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  by_cases h0 : t.val % 8 = 0
  · have h3 : ¬t.val % 8 = 7 := by omega
    rw [Dat.leavesExact_idle (dats m 0 c) 8 t (idleAt0_8 t h3) (noFlush0_8 t h3)]
    rw [Dat.leavesExact_idle (dats m 0 c) 9 t (idleAt0_9 t h3) (noFlush0_9 t h3)]
    rw [Dat.leavesExact_idle (dats m 0 c) 10 t (idleAt0_10 t h3) (noFlush0_10 t h3)]
    by_cases hz : t.val = 0
    · rw [PhiS_castSucc m c t, PhiS_zero m c _ _ hz, PhiA0_eq]
      by_cases he : exBit (ins m c t).ks (ins m c t).vs = 1#1
      ·
        have hu := stAt_first m c t h0
        unfold upd at hu; rw [if_pos he] at hu
        rw [hu]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runFstEx c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((cFst_iff t).mpr h0) (fun h => h3 ((cLst_iff t).mp h)) (ins m c t) _ _ _ he Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10
      ·
        have hu := stAt_first m c t h0
        unfold upd at hu; rw [if_neg he] at hu
        rw [hu]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runFstGen c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((cFst_iff t).mpr h0) (fun h => h3 ((cLst_iff t).mp h)) (ins m c t) _ _ _ he Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10
    · rw [PhiS_castSucc m c t, PhiS_pos m c _ _ hz]
      by_cases he : exBit (ins m c t).ks (ins m c t).vs = 1#1
      ·
        have hu := stAt_first m c t h0
        unfold upd at hu; rw [if_pos he] at hu
        rw [hu]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runFstEx c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((cFst_iff t).mpr h0) (fun h => h3 ((cLst_iff t).mp h)) (ins m c t) _ _ _ he Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        isplitl [HS1]; · iexists _; iexact HS1
        isplitl [HS2]; · iexists _; iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10
      ·
        have hu := stAt_first m c t h0
        unfold upd at hu; rw [if_neg he] at hu
        rw [hu]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runFstGen c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((cFst_iff t).mpr h0) (fun h => h3 ((cLst_iff t).mp h)) (ins m c t) _ _ _ he Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        isplitl [HS1]; · iexists _; iexact HS1
        isplitl [HS2]; · iexists _; iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10
  · have hz : t.val ≠ 0 := fun h => h0 (by rw [h])
    rw [PhiS_castSucc m c t, PhiS_pos m c _ _ hz]
    by_cases h3 : t.val % 8 = 7
    ·
      rw [show (dats m 0 c).leavesExact 8 t = owns (c : Thread nD τ) (ms0_8 t) fullShare ((dats m 0 c).after 8 t) from by
        unfold Dat.leavesExact; rw [liveAt0_8 t h3], after0_8]
      rw [show (dats m 0 c).leavesExact 9 t = owns (c : Thread nD τ) (ms0_9 t) fullShare ((dats m 0 c).after 9 t) from by
        unfold Dat.leavesExact; rw [liveAt0_9 t h3], after0_9]
      rw [show (dats m 0 c).leavesExact 10 t = owns (c : Thread nD τ) (ms0_10 t) fullShare ((dats m 0 c).after 10 t) from by
        unfold Dat.leavesExact; rw [liveAt0_10 t h3], after0_10]
      by_cases he : exBit (ins m c t).ks (ins m c t).vs = 1#1
      ·
        have hu := stAt_next m c t h0
        unfold upd at hu; rw [if_pos he] at hu
        rw [hu]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runLstEx c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((cFst_iff t).mp h)) ((cLst_iff t).mpr h3) (ins m c t) (stAt m c (t.val - 1) (by omega)) he Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      ·
        have hu := stAt_next m c t h0
        unfold upd at hu; rw [if_neg he] at hu
        rw [hu]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runLstGen c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((cFst_iff t).mp h)) ((cLst_iff t).mpr h3) (ins m c t) (stAt m c (t.val - 1) (by omega)) he Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
    ·
      rw [Dat.leavesExact_idle (dats m 0 c) 8 t (idleAt0_8 t h3) (noFlush0_8 t h3)]
      rw [Dat.leavesExact_idle (dats m 0 c) 9 t (idleAt0_9 t h3) (noFlush0_9 t h3)]
      rw [Dat.leavesExact_idle (dats m 0 c) 10 t (idleAt0_10 t h3) (noFlush0_10 t h3)]
      by_cases he : exBit (ins m c t).ks (ins m c t).vs = 1#1
      ·
        have hu := stAt_next m c t h0
        unfold upd at hu; rw [if_pos he] at hu
        rw [hu]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runMidEx c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((cFst_iff t).mp h)) (fun h => h3 ((cLst_iff t).mp h)) (ins m c t) (stAt m c (t.val - 1) (by omega)) _ _ _ he Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10
      ·
        have hu := stAt_next m c t h0
        unfold upd at hu; rw [if_neg he] at hu
        rw [hu]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runMidGen c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((cFst_iff t).mp h)) (fun h => h3 ((cLst_iff t).mp h)) (ins m c t) (stAt m c (t.val - 1) (by omega)) _ _ _ he Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

-- the implicit arguments are found by unifying with the conclusion, which takes unfolding plain definitions in a type
set_option backward.isDefEq.respectTransparency.types false in
/-- The run of the whole program: it terminates, every array ends at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame claim, at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Run

end
-- ==== Proof.KernelIdeal.Step.lean ====
/-
  What one grid point of the attention kernel does, as functions of the blocks it is handed and of the scratch the
  point before left: the quantiser-exactness bit, the two ways of updating the running maximum, the running sum and
  the running numerator, and the three blocks the last point of a sequence writes out. Nothing is proved here but
  the spelling of the branch conditions; `Run` shows that the printed body computes these functions.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Tactic
public import Idealize.ShloMosaic.Lib.VecWindow
public import Idealize.ShloMosaic.Lib.Pipeline.FrameBody

@[expose] public section

noncomputable section

namespace Cert.KernelIdeal.Run

open Cert.KernelIdeal Cert.KernelIdeal.Gen
open Idealize.ShloMosaic Idealize.ShloMosaic.TcCoe

variable {F : FTy → Type} [FloatOps F]

/-- The blocks the body is handed at a grid point: the two scale vectors, the block-diagonal query, the plain query, the new
    key and value rows and the transposed tiles of the two caches. -/
structure Ins (F : FTy → Type) where
  ks : Vec F S4 .f32
  vs : Vec F S4 .f32
  qbd : Vec F S1x64x256 .bf16
  q : Vec F S1x64x64 .bf16
  kn : Vec F S1x1x4x64 .bf16
  vn : Vec F S1x1x4x64 .bf16
  kt : Vec F S1x256x4096 .fp8e4m3
  vt : Vec F S1x256x4096 .fp8e4m3

/-- The scratch the kernel carries from a grid point to the next: the running maximum and the running sum (in every column
    of a 128-wide buffer) and the running numerator. -/
structure St (F : FTy → Type) where
  m : Vec F S64x128 .f32
  l : Vec F S64x128 .f32
  a : Vec F S64x256 .f32

/-- The one index of a one-word block. -/
abbrev i1 : S1.Idx := Shape.Idx.first (s := S1) (numel1_S1.symm ▸ Nat.one_pos)

/-- The four words of a scale vector. -/
abbrev w0 (x : Vec F S4 .f32) : F .f32 := View.ld (Val := Elt F) (e' := .f32) x (Rect.unit (s := S4) ![0] S1.size inb_S4_S1_0) i1
abbrev w1 (x : Vec F S4 .f32) : F .f32 := View.ld (Val := Elt F) (e' := .f32) x (Rect.unit (s := S4) ![1] S1.size inb_S4_S1_1) i1
abbrev w2 (x : Vec F S4 .f32) : F .f32 := View.ld (Val := Elt F) (e' := .f32) x (Rect.unit (s := S4) ![2] S1.size inb_S4_S1_2) i1
abbrev w3 (x : Vec F S4 .f32) : F .f32 := View.ld (Val := Elt F) (e' := .f32) x (Rect.unit (s := S4) ![3] S1.size inb_S4_S1_3) i1

/-- The first column of a 128-wide scratch buffer, as the body loads it. -/
abbrev col (x : Vec F S64x128 .f32) : Vec F S64x1 .f32 := View.ld (Val := Elt F) (e' := .f32) x (Rect.unit (s := S64x128) ![0, 0] S64x1.size inb_S64x128_S64x1_0_0)

omit [FloatOps F] in
/-- A load of a whole block reads the block. -/
theorem ld_full {s : Shape} {e : EltTy} (x : s.Idx → Elt F e) {off : Fin s.rank → ℕ} (inb : ∀ a, off a + s.size a ≤ s.size a) :
    View.ld (Val := Elt F) (e' := e) x (Rect.unit off s.size inb) = x := by
  funext y
  exact congrArg x (funext fun a => Fin.ext (by
    show off a + 1 * (y a).val = (y a).val
    have := inb a; omega))

/-- The whole-block load of a `S1x64x256` block, as the body spells it, -/
def lqbd (x : Vec F S1x64x256 .bf16) : Vec F S1x64x256 .bf16 := View.ld (Val := Elt F) (e' := .bf16) x (Rect.unit (s := S1x64x256) ![0, 0, 0] S1x64x256.size inb_S1x64x256_S1x64x256_0_0_0)
omit [FloatOps F] in
/-- is the block. -/
theorem lqbd_eq (x : Vec F S1x64x256 .bf16) : lqbd x = x := ld_full (e := .bf16) x _

/-- The whole-block load of a `S1x64x64` block, as the body spells it, -/
def lq (x : Vec F S1x64x64 .bf16) : Vec F S1x64x64 .bf16 := View.ld (Val := Elt F) (e' := .bf16) x (Rect.unit (s := S1x64x64) ![0, 0, 0] S1x64x64.size inb_S1x64x64_S1x64x64_0_0_0)
omit [FloatOps F] in
/-- is the block. -/
theorem lq_eq (x : Vec F S1x64x64 .bf16) : lq x = x := ld_full (e := .bf16) x _

/-- The whole-block load of a `S1x1x4x64` block, as the body spells it, -/
def ln (x : Vec F S1x1x4x64 .bf16) : Vec F S1x1x4x64 .bf16 := View.ld (Val := Elt F) (e' := .bf16) x (Rect.unit (s := S1x1x4x64) ![0, 0, 0, 0] S1x1x4x64.size inb_S1x1x4x64_S1x1x4x64_0_0_0_0)
omit [FloatOps F] in
/-- is the block. -/
theorem ln_eq (x : Vec F S1x1x4x64 .bf16) : ln x = x := ld_full (e := .bf16) x _

/-- The whole-block load of a `S1x256x4096` block, as the body spells it, -/
def lt (x : Vec F S1x256x4096 .fp8e4m3) : Vec F S1x256x4096 .fp8e4m3 := View.ld (Val := Elt F) (e' := .fp8e4m3) x (Rect.unit (s := S1x256x4096) ![0, 0, 0] S1x256x4096.size inb_S1x256x4096_S1x256x4096_0_0_0)
omit [FloatOps F] in
/-- is the block. -/
theorem lt_eq (x : Vec F S1x256x4096 .fp8e4m3) : lt x = x := ld_full (e := .fp8e4m3) x _

/-- The whole-block load of a `S64x256` block, as the body spells it, -/
def la (x : Vec F S64x256 .f32) : Vec F S64x256 .f32 := View.ld (Val := Elt F) (e' := .f32) x (Rect.unit (s := S64x256) ![0, 0] S64x256.size inb_S64x256_S64x256_0_0)
omit [FloatOps F] in
/-- is the block. -/
theorem la_eq (x : Vec F S64x256 .f32) : la x = x := ld_full (e := .f32) x _

omit [FloatOps F] in
/-- A store over a whole scratch buffer leaves what was stored. -/
theorem wr_S64x128 (v : View sig .tc .vmem S64x128 .f32) (f : v.ty.Contents (Elt F)) (w : S64x128.Idx → Elt F .f32) (L : List (View.Piece (Elt F) S64x128 .f32)) :
    v.read (Elt F) (v.writes (Elt F) f (⟨Rect.unit ![0, 0] S64x128.size inb_S64x128_S64x128_0_0, w⟩ :: L)) = w := View.read_writes_full v f _ w L

omit [FloatOps F] in
/-- A store over a whole scratch buffer leaves what was stored. -/
theorem wr_S64x256 (v : View sig .tc .vmem S64x256 .f32) (f : v.ty.Contents (Elt F)) (w : S64x256.Idx → Elt F .f32) (L : List (View.Piece (Elt F) S64x256 .f32)) :
    v.read (Elt F) (v.writes (Elt F) f (⟨Rect.unit ![0, 0] S64x256.size inb_S64x256_S64x256_0_0, w⟩ :: L)) = w := View.read_writes_full v f _ w L

/-- The exactness bit of eight scale words: the conjunction of the eight comparisons the body makes. -/
abbrev exW (a b c d e f g h : F .f32) : BitVec 1 :=
  Scalar.andi (Scalar.andi (Scalar.andi (Scalar.andi (Scalar.andi (Scalar.andi (Scalar.andi
    (Scalar.cmpf .ogt (k0_pay26 a) (Scalar.ofBits .f32 0x00000000#32))
    (Scalar.cmpf .ogt (k0_pay30 (k0_pay27 b) k0_pay28 (k0_pay29 (F := F))) (Scalar.ofBits .f32 0x00000000#32)))
    (Scalar.cmpf .ogt (k0_pay31 c) (Scalar.ofBits .f32 0x00000000#32)))
    (Scalar.cmpf .ogt (k0_pay32 d) (Scalar.ofBits .f32 0x00000000#32)))
    (Scalar.cmpf .ogt (k0_pay36 (F := F) (k0_pay34 e) k0_pay35) (Scalar.ofBits .f32 0x00000000#32)))
    (Scalar.cmpf .ogt (k0_pay37 f) (Scalar.ofBits .f32 0x00000000#32)))
    (Scalar.cmpf .ogt (k0_pay40 (k0_pay38 g) k0_pay39 (iota .tc S2x128 32 [1] iota_S2x128_d1_w32)) (Scalar.ofBits .f32 0x00000000#32)))
    (Scalar.cmpf .ogt (k0_pay42 (k0_pay41 h)) (Scalar.ofBits .f32 0x00000000#32))

/-- The exactness bit of the two scale vectors. -/
abbrev exBit (ks vs : Vec F S4 .f32) : BitVec 1 := exW (w0 ks) (w1 ks) (w2 ks) (w3 ks) (w0 vs) (w1 vs) (w2 vs) (w3 vs)

/-- The body's branch conditions: the first tile of a sequence, the exact branch, the other branch, the last tile. -/
abbrev cFst (i : grid0.Coords) : Prop := Scalar.cmpi .ne (Scalar.extui (Scalar.cmpi .eq (BitVec.ofNat 32 (i 1).val) 0#32)) 0#32 = 1#1
abbrev cEx (b : BitVec 1) : Prop := Scalar.cmpi .ne (Scalar.extui b) 0#32 = 1#1
abbrev cGen (b : BitVec 1) : Prop := Scalar.cmpi .ne (Scalar.extui (Scalar.xori b 1#1)) 0#32 = 1#1
abbrev cLst (i : grid0.Coords) : Prop := k0_cond4 i = 1#1

/-- The exact branch is taken when the bit is one, -/
theorem cEx_iff (b : BitVec 1) : cEx b ↔ b = 1#1 := by revert b; decide
/-- and the other branch otherwise. -/
theorem cGen_iff (b : BitVec 1) : cGen b ↔ ¬ b = 1#1 := by revert b; decide

/-- The first tile of a sequence is at the points divisible by eight, -/
theorem cFst_iff (t : Fin cfg0.N) : cFst (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cFst, e0, e1]
    word_cmp
   : ∀ t : Fin grid0.N, cFst (grid0.coords t) ↔ t.val % 8 = 0) t
/-- and the last one at those that are 7 modulo eight. -/
theorem cLst_iff (t : Fin cfg0.N) : cLst (grid0.coords t) ↔ t.val % 8 = 7 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cLst, k0_cond4, e0, e1]
    word_cmp
   : ∀ t : Fin grid0.N, cLst (grid0.coords t) ↔ t.val % 8 = 7) t

/-- The scratch a sequence starts from. -/
def init : St F := ⟨k0_pay23, k0_pay24, k0_pay25⟩

/-- The update of the exact branch: the codes go through the matrix products unscaled. -/
def stepEx (b : Ins F) (s : St F) : St F where
  m := k0_pay45 (k0_pay8 (k0_pay43 (w0 b.ks) (w1 b.ks) (w2 b.ks) (w3 b.ks)) (lt b.kt) (lqbd b.qbd) (col s.m))
  l := k0_pay46 (k0_pay6 (k0_pay43 (w0 b.ks) (w1 b.ks) (w2 b.ks) (w3 b.ks)) (lt b.kt) (lqbd b.qbd) (col s.m) (col s.l))
  a := k0_pay7 (k0_pay43 (w0 b.ks) (w1 b.ks) (w2 b.ks) (w3 b.ks)) (lt b.kt) (lt b.vt) (lqbd b.qbd) (col s.m) (la s.a)

/-- The update of the other branch: the tiles are scaled before the matrix products. -/
def stepGen (b : Ins F) (s : St F) : St F where
  m := k0_pay51 (col s.m) (k0_pay11 (w0 b.ks) (w1 b.ks) (w2 b.ks) (w3 b.ks) (lt b.kt) (lqbd b.qbd))
  l := k0_pay52 (k0_pay10 (w0 b.ks) (w1 b.ks) (w2 b.ks) (w3 b.ks) (lt b.kt) (lqbd b.qbd)) (col s.m)
    (k0_pay11 (w0 b.ks) (w1 b.ks) (w2 b.ks) (w3 b.ks) (lt b.kt) (lqbd b.qbd)) (col s.l)
  a := k0_pay50 (k0_pay9 (w0 b.vs) (w1 b.vs) (w2 b.vs) (w3 b.vs) (lt b.vt)) (k0_pay10 (w0 b.ks) (w1 b.ks) (w2 b.ks) (w3 b.ks) (lt b.kt) (lqbd b.qbd))
    (col s.m) (k0_pay11 (w0 b.ks) (w1 b.ks) (w2 b.ks) (w3 b.ks) (lt b.kt) (lqbd b.qbd)) (la s.a)

/-- The update of a grid point past the initialisation. -/
def upd (b : Ins F) (s : St F) : St F := if exBit b.ks b.vs = 1#1 then stepEx b s else stepGen b s

/-- The quantised new key row, as the last point writes it out. -/
def outK (b : Ins F) : Vec F S1x1x4x64 .fp8e4m3 := k0_pay19 (k0_pay13 (w0 b.ks) (w1 b.ks) (w2 b.ks) (w3 b.ks) (ln b.kn))
/-- The quantised new value row. -/
def outV (b : Ins F) : Vec F S1x1x4x64 .fp8e4m3 := k0_pay20 (k0_pay16 (w0 b.vs) (w1 b.vs) (w2 b.vs) (w3 b.vs) (ln b.vn))

/-- The attention result of a sequence, from the scratch as the last point leaves it. -/
def outY (b : Ins F) (s : St F) : Vec F S1x64x64 .bf16 :=
  k0_pay1 (k0_pay18 (k0_pay15 (w0 b.vs) (w1 b.vs) (w2 b.vs) (w3 b.vs)) (k0_pay17 (w0 b.vs) (w1 b.vs) (w2 b.vs) (w3 b.vs) (ln b.vn)))
    (k0_pay21 (exBit b.ks b.vs) (k0_pay44 (w0 b.vs) (w1 b.vs) (w2 b.vs) (w3 b.vs))
      (View.ld (Val := Elt F) (e' := .f32) s.a (Rect.unit (s := S64x256) ![0, 0] S16x64.size inb_S64x256_S16x64_0_0))
      (View.ld (Val := Elt F) (e' := .f32) s.a (Rect.unit (s := S64x256) ![16, 64] S16x64.size inb_S64x256_S16x64_16_64))
      (View.ld (Val := Elt F) (e' := .f32) s.a (Rect.unit (s := S64x256) ![32, 128] S16x64.size inb_S64x256_S16x64_32_128))
      (View.ld (Val := Elt F) (e' := .f32) s.a (Rect.unit (s := S64x256) ![48, 192] S16x64.size inb_S64x256_S16x64_48_192)))
    (k0_pay22 (k0_pay14 (w0 b.ks) (w1 b.ks) (w2 b.ks) (w3 b.ks) (ln b.kn)) (lq b.q))
    (col s.m) (col s.l)

end Cert.KernelIdeal.Run

end
-- ==== Proof.KernelIdeal.Run.lean ====
/-
  The printed body of the attention kernel run on any whole staging buffers: at the first tile of a sequence, at a tile
  in the middle and at the last tile, the scratch ends at `upd` of what it held (of `init` at the first tile) and
  the three output buffers are left alone, or at the last tile end at `outY`, `outK` and `outV`.
-/
module

public import proofs.«01_k».proof.Proof.KernelIdeal.Step
public import Idealize.ShloMosaic.Lib.Pipeline.ReadBack
public import Idealize.ShloMosaic.Lib.Tactic.Stretches

@[expose] public section

set_option maxRecDepth 4000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .smem S4 .f32) (harg2 : arg2.IsWhole)
  (arg3 : Memref sig .tc .smem S4 .f32) (harg3 : arg3.IsWhole)
  (arg4 : Memref sig .tc .vmem S1x64x256 .bf16) (harg4 : arg4.IsWhole)
  (arg5 : Memref sig .tc .vmem S1x64x64 .bf16) (harg5 : arg5.IsWhole)
  (arg6 : Memref sig .tc .vmem S1x1x4x64 .bf16) (harg6 : arg6.IsWhole)
  (arg7 : Memref sig .tc .vmem S1x1x4x64 .bf16) (harg7 : arg7.IsWhole)
  (arg8 : Memref sig .tc .vmem S1x256x4096 .fp8e4m3) (harg8 : arg8.IsWhole)
  (arg9 : Memref sig .tc .vmem S1x256x4096 .fp8e4m3) (harg9 : arg9.IsWhole)
  (arg10 : Memref sig .tc .vmem S1x64x64 .bf16) (harg10 : arg10.IsWhole)
  (arg11 : Memref sig .tc .vmem S1x1x4x64 .fp8e4m3) (harg11 : arg11.IsWhole)
  (arg12 : Memref sig .tc .vmem S1x1x4x64 .fp8e4m3) (harg12 : arg12.IsWhole)
  (arg13 : Memref sig .tc .vmem S64x128 .f32) (harg13 : arg13.IsWhole)
  (arg14 : Memref sig .tc .vmem S64x128 .f32) (harg14 : arg14.IsWhole)
  (arg15 : Memref sig .tc .vmem S64x256 .f32) (harg15 : arg15.IsWhole)

set_option maxHeartbeats 4000000 in
/-- A middle tile in the exact branch. -/
theorem runMidEx (hc0 : ¬cFst i) (hc3 : ¬cLst i) (b : Ins F) (s : St F) (y : Vec F S1x64x64 .bf16) (kc vc : Vec F S1x1x4x64 .fp8e4m3) (he : exBit b.ks b.vs = 1#1)
    (E : Set ℕ) (K : PUnit → sProp 𝕄) :
    iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare y ∗ owns (c : Thread nD τ) arg11 fullShare kc ∗ owns (c : Thread nD τ) arg12 fullShare vc ∗ owns (c : Thread nD τ) arg13 fullShare s.m ∗ owns (c : Thread nD τ) arg14 fullShare s.l ∗ owns (c : Thread nD τ) arg15 fullShare s.a
        ∗ (iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare y ∗ owns (c : Thread nD τ) arg11 fullShare kc ∗ owns (c : Thread nD τ) arg12 fullShare vc ∗ owns (c : Thread nD τ) arg13 fullShare (stepEx b s).m ∗ owns (c : Thread nD τ) arg14 fullShare (stepEx b s).l ∗ owns (c : Thread nD τ) arg15 fullShare (stepEx b s).a) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  obtain ⟨ks, vs, qbd, q, kn, vn, kt, vt⟩ := b
  obtain ⟨xm, xl, xa⟩ := s
  dsimp only at he ⊢
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
  subst hf0 hf1 hf2 hf3 hf4 hf5 hf6 hf7 hf8 hf9 hf10 hfs0 hfs1 hfs2
  have hc1 := (cEx_iff _).mpr he
  have hc2 := fun h => (cGen_iff _).mp h he
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [HS0]
  · iexists _; isplitr
    swap; · iexact HS0
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [HS1]
  · iexists _; isplitr
    swap; · iexact HS1
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  · iexists _; isplitr
    swap; · iexact HS2
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))

set_option maxHeartbeats 4000000 in
/-- A middle tile in the other branch. -/
theorem runMidGen (hc0 : ¬cFst i) (hc3 : ¬cLst i) (b : Ins F) (s : St F) (y : Vec F S1x64x64 .bf16) (kc vc : Vec F S1x1x4x64 .fp8e4m3) (he : ¬exBit b.ks b.vs = 1#1)
    (E : Set ℕ) (K : PUnit → sProp 𝕄) :
    iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare y ∗ owns (c : Thread nD τ) arg11 fullShare kc ∗ owns (c : Thread nD τ) arg12 fullShare vc ∗ owns (c : Thread nD τ) arg13 fullShare s.m ∗ owns (c : Thread nD τ) arg14 fullShare s.l ∗ owns (c : Thread nD τ) arg15 fullShare s.a
        ∗ (iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare y ∗ owns (c : Thread nD τ) arg11 fullShare kc ∗ owns (c : Thread nD τ) arg12 fullShare vc ∗ owns (c : Thread nD τ) arg13 fullShare (stepGen b s).m ∗ owns (c : Thread nD τ) arg14 fullShare (stepGen b s).l ∗ owns (c : Thread nD τ) arg15 fullShare (stepGen b s).a) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  obtain ⟨ks, vs, qbd, q, kn, vn, kt, vt⟩ := b
  obtain ⟨xm, xl, xa⟩ := s
  dsimp only at he ⊢
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
  subst hf0 hf1 hf2 hf3 hf4 hf5 hf6 hf7 hf8 hf9 hf10 hfs0 hfs1 hfs2
  have hc1 := fun h => he ((cEx_iff _).mp h)
  have hc2 := (cGen_iff _).mpr he
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [HS0]
  · iexists _; isplitr
    swap; · iexact HS0
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [HS1]
  · iexists _; isplitr
    swap; · iexact HS1
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  · iexists _; isplitr
    swap; · iexact HS2
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))

set_option maxHeartbeats 4000000 in
/-- The first tile in the exact branch. -/
theorem runFstEx (hc0 : cFst i) (hc3 : ¬cLst i) (b : Ins F) (y : Vec F S1x64x64 .bf16) (kc vc : Vec F S1x1x4x64 .fp8e4m3) (he : exBit b.ks b.vs = 1#1)
    (E : Set ℕ) (K : PUnit → sProp 𝕄) :
    iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare y ∗ owns (c : Thread nD τ) arg11 fullShare kc ∗ owns (c : Thread nD τ) arg12 fullShare vc ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare y ∗ owns (c : Thread nD τ) arg11 fullShare kc ∗ owns (c : Thread nD τ) arg12 fullShare vc ∗ owns (c : Thread nD τ) arg13 fullShare (stepEx b init).m ∗ owns (c : Thread nD τ) arg14 fullShare (stepEx b init).l ∗ owns (c : Thread nD τ) arg15 fullShare (stepEx b init).a) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  obtain ⟨ks, vs, qbd, q, kn, vn, kt, vt⟩ := b
  dsimp only at he ⊢
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, Hk⟩
  subst hf0 hf1 hf2 hf3 hf4 hf5 hf6 hf7 hf8 hf9 hf10
  have hc1 := (cEx_iff _).mpr he
  have hc2 := fun h => (cGen_iff _).mp h he
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [HS0]
  · iexists _; isplitr
    swap; · iexact HS0
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [HS1]
  · iexists _; isplitr
    swap; · iexact HS1
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  · iexists _; isplitr
    swap; · iexact HS2
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))

set_option maxHeartbeats 4000000 in
/-- The first tile in the other branch. -/
theorem runFstGen (hc0 : cFst i) (hc3 : ¬cLst i) (b : Ins F) (y : Vec F S1x64x64 .bf16) (kc vc : Vec F S1x1x4x64 .fp8e4m3) (he : ¬exBit b.ks b.vs = 1#1)
    (E : Set ℕ) (K : PUnit → sProp 𝕄) :
    iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare y ∗ owns (c : Thread nD τ) arg11 fullShare kc ∗ owns (c : Thread nD τ) arg12 fullShare vc ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare y ∗ owns (c : Thread nD τ) arg11 fullShare kc ∗ owns (c : Thread nD τ) arg12 fullShare vc ∗ owns (c : Thread nD τ) arg13 fullShare (stepGen b init).m ∗ owns (c : Thread nD τ) arg14 fullShare (stepGen b init).l ∗ owns (c : Thread nD τ) arg15 fullShare (stepGen b init).a) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  obtain ⟨ks, vs, qbd, q, kn, vn, kt, vt⟩ := b
  dsimp only at he ⊢
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, Hk⟩
  subst hf0 hf1 hf2 hf3 hf4 hf5 hf6 hf7 hf8 hf9 hf10
  have hc1 := fun h => he ((cEx_iff _).mp h)
  have hc2 := (cGen_iff _).mpr he
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [HS0]
  · iexists _; isplitr
    swap; · iexact HS0
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [HS1]
  · iexists _; isplitr
    swap; · iexact HS1
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  · iexists _; isplitr
    swap; · iexact HS2
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))

set_option maxHeartbeats 4000000 in
/-- The last tile in the exact branch. -/
theorem runLstEx (hc0 : ¬cFst i) (hc3 : cLst i) (b : Ins F) (s : St F) (he : exBit b.ks b.vs = 1#1)
    (E : Set ℕ) (K : PUnit → sProp 𝕄) :
    iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s.m ∗ owns (c : Thread nD τ) arg14 fullShare s.l ∗ owns (c : Thread nD τ) arg15 fullShare s.a
        ∗ (iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare (outY b (stepEx b s)) ∗ owns (c : Thread nD τ) arg11 fullShare (outK b) ∗ owns (c : Thread nD τ) arg12 fullShare (outV b) ∗ owns (c : Thread nD τ) arg13 fullShare (stepEx b s).m ∗ owns (c : Thread nD τ) arg14 fullShare (stepEx b s).l ∗ owns (c : Thread nD τ) arg15 fullShare (stepEx b s).a) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  obtain ⟨ks, vs, qbd, q, kn, vn, kt, vt⟩ := b
  obtain ⟨xm, xl, xa⟩ := s
  dsimp only at he ⊢
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, Hk⟩
  subst hf0 hf1 hf2 hf3 hf4 hf5 hf6 hf7 hfs0 hfs1 hfs2
  have hc1 := (cEx_iff _).mpr he
  have hc2 := fun h => (cGen_iff _).mp h he
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [H9]
  · iexists _; isplitr
    swap; · iexact H9
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [H10]
  · iexists _; isplitr
    swap; · iexact H10
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [HS0]
  · iexists _; isplitr
    swap; · iexact HS0
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [HS1]
  · iexists _; isplitr
    swap; · iexact HS1
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  · iexists _; isplitr
    swap; · iexact HS2
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))

set_option maxHeartbeats 4000000 in
/-- The last tile in the other branch. -/
theorem runLstGen (hc0 : ¬cFst i) (hc3 : cLst i) (b : Ins F) (s : St F) (he : ¬exBit b.ks b.vs = 1#1)
    (E : Set ℕ) (K : PUnit → sProp 𝕄) :
    iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s.m ∗ owns (c : Thread nD τ) arg14 fullShare s.l ∗ owns (c : Thread nD τ) arg15 fullShare s.a
        ∗ (iprop(owns (c : Thread nD τ) arg2 fullShare b.ks ∗ owns (c : Thread nD τ) arg3 fullShare b.vs ∗ owns (c : Thread nD τ) arg4 fullShare b.qbd ∗ owns (c : Thread nD τ) arg5 fullShare b.q ∗ owns (c : Thread nD τ) arg6 fullShare b.kn ∗ owns (c : Thread nD τ) arg7 fullShare b.vn ∗ owns (c : Thread nD τ) arg8 fullShare b.kt ∗ owns (c : Thread nD τ) arg9 fullShare b.vt ∗ owns (c : Thread nD τ) arg10 fullShare (outY b (stepGen b s)) ∗ owns (c : Thread nD τ) arg11 fullShare (outK b) ∗ owns (c : Thread nD τ) arg12 fullShare (outV b) ∗ owns (c : Thread nD τ) arg13 fullShare (stepGen b s).m ∗ owns (c : Thread nD τ) arg14 fullShare (stepGen b s).l ∗ owns (c : Thread nD τ) arg15 fullShare (stepGen b s).a) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  obtain ⟨ks, vs, qbd, q, kn, vn, kt, vt⟩ := b
  obtain ⟨xm, xl, xa⟩ := s
  dsimp only at he ⊢
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, Hk⟩
  subst hf0 hf1 hf2 hf3 hf4 hf5 hf6 hf7 hfs0 hfs1 hfs2
  have hc1 := fun h => he ((cEx_iff _).mp h)
  have hc2 := (cGen_iff _).mpr he
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [H9]
  · iexists _; isplitr
    swap; · iexact H9
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [H10]
  · iexists _; isplitr
    swap; · iexact H10
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [HS0]
  · iexists _; isplitr
    swap; · iexact HS0
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  isplitl [HS1]
  · iexists _; isplitr
    swap; · iexact HS1
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))
  · iexists _; isplitr
    swap; · iexact HS2
    ipureintro; sl_open_run
    rw [View.read_writes_full]
    simp only [View.readCov, View.readAt_eq_ld, wr_S64x128, wr_S64x256, stepEx, stepGen, init, outY, outK, outV, lt, lqbd, lq, ln, la]
    all_goals first | with_reducible rfl | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _) | (congr 1 <;> first | with_reducible rfl | exact congrArg col (wr_S64x128 _ _ _ _) | exact congrArg la (wr_S64x256 _ _ _ _) | exact congrArg (fun z => View.ld (Val := Elt F) (e' := .f32) z _) (wr_S64x256 _ _ _ _))))

end Cert.KernelIdeal.Run

end
-- ==== Proof.KernelIdeal.Body.lean ====
/-
  The frame of the attention kernel: the scratch a grid point leaves, point by point (`stAt`), the proof data of
  the pipeline, the body at every point of the grid, and from these the run of the whole program (`run_main`) and the
  frame claim (`frame`).
-/
module

public import proofs.«01_k».proof.Proof.KernelIdeal.Run
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the body is handed at point `t`. -/
def ins (c : Dev nD) (t : Fin cfg0.N) : Ins F where
  ks := iblk m c 0 t
  vs := iblk m c 1 t
  qbd := iblk m c 2 t
  q := iblk m c 3 t
  kn := iblk m c 4 t
  vn := iblk m c 5 t
  kt := iblk m c 6 t
  vt := iblk m c 7 t

/-- The scratch after point `n`: a sequence's first point starts from `init`, every other from what the point before left. -/
def stAt (c : Dev nD) : (n : ℕ) → n < cfg0.N → St F
  | 0, h => upd (ins m c ⟨0, h⟩) init
  | n + 1, h => upd (ins m c ⟨n + 1, h⟩) (if (n + 1) % 8 = 0 then init else stAt c n (Nat.lt_of_succ_lt h))

/-- At a sequence's first point. -/
theorem stAt_first (c : Dev nD) (t : Fin cfg0.N) (h : t.val % 8 = 0) : stAt m c t.val t.isLt = upd (ins m c t) init := by
  obtain ⟨n, hn⟩ := t
  cases n with
  | zero => rfl
  | succ n => exact congrArg (upd _) (if_pos h)

/-- At any other point. -/
theorem stAt_next (c : Dev nD) (t : Fin cfg0.N) (h : ¬t.val % 8 = 0) :
    stAt m c t.val t.isLt = upd (ins m c t) (stAt m c (t.val - 1) (Nat.lt_of_le_of_lt (Nat.sub_le _ _) t.isLt)) := by
  obtain ⟨n, hn⟩ := t
  cases n with
  | zero => exact absurd rfl h
  | succ n => exact congrArg (upd _) (if_neg h)

/-- The scratch operands, as memrefs. -/
abbrev scM0_0 : Memref sig .tc .vmem S64x128 .f32 := Memref.whole cc0_scratch0
abbrev scM0_1 : Memref sig .tc .vmem S64x128 .f32 := Memref.whole cc0_scratch1
abbrev scM0_2 : Memref sig .tc .vmem S64x256 .f32 := Memref.whole cc0_scratch2

/-- Each window's current staging memref at point `t`, and its wholeness. -/
abbrev ms0_0 (t : Fin cfg0.N) : Memref sig .tc .smem S4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x4x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x4x64 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x4096 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64x64 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x4x64 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x4x64 .fp8e4m3 := win0_10.stage (cfg0.slots t 10)
abbrev hs0_10 (t : Fin cfg0.N) : (ms0_10 t).IsWhole := hstage0_10 ((cfg0.slots t 10).cast nbuf0_10)

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
/-- The outputs are idle except at the last tile of a sequence, where they are written back. -/
theorem liveAt0_8 : ∀ t : Fin cfg0.N, t.val % 8 = 7 → cfg0.idle 8 (grid0.coords t) = false := by decide +kernel
theorem idleAt0_8 : ∀ t : Fin cfg0.N, ¬t.val % 8 = 7 → cfg0.idle 8 (grid0.coords t) = true := by decide +kernel
theorem noFlush0_8 : ∀ t : Fin cfg0.N, ¬t.val % 8 = 7 → (cfg0.win 8).flush t = false := fun t h => Bool.eq_false_iff.mpr fun hf => h ((flush0_8 t).mp hf)
theorem liveAt0_9 : ∀ t : Fin cfg0.N, t.val % 8 = 7 → cfg0.idle 9 (grid0.coords t) = false := by decide +kernel
theorem idleAt0_9 : ∀ t : Fin cfg0.N, ¬t.val % 8 = 7 → cfg0.idle 9 (grid0.coords t) = true := by decide +kernel
theorem noFlush0_9 : ∀ t : Fin cfg0.N, ¬t.val % 8 = 7 → (cfg0.win 9).flush t = false := fun t h => Bool.eq_false_iff.mpr fun hf => h ((flush0_9 t).mp hf)
theorem liveAt0_10 : ∀ t : Fin cfg0.N, t.val % 8 = 7 → cfg0.idle 10 (grid0.coords t) = false := by decide +kernel
theorem idleAt0_10 : ∀ t : Fin cfg0.N, ¬t.val % 8 = 7 → cfg0.idle 10 (grid0.coords t) = true := by decide +kernel
theorem noFlush0_10 : ∀ t : Fin cfg0.N, ¬t.val % 8 = 7 → (cfg0.win 10).flush t = false := fun t h => Bool.eq_false_iff.mpr fun hf => h ((flush0_10 t).mp hf)

/-- The launch's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant before position `n`: at the start the scratch holds anything, afterwards what the point before left. -/
def PhiS (c : Dev nD) : (n : ℕ) → n ≤ cfg0.N → sProp 𝕄
  | 0, _ => Pipeline.ΦA spec0 c
  | n + 1, hn => iprop(iprop(owns (c : Thread nD τ) scM0_0 fullShare (stAt m c n hn).m ∗ owns (c : Thread nD τ) scM0_1 fullShare (stAt m c n hn).l ∗ owns (c : Thread nD τ) scM0_2 fullShare (stAt m c n hn).a) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (stAt m c n hn).m ∗ owns (c : Thread nD τ) scM0_1 fullShare (stAt m c n hn).l ∗ owns (c : Thread nD τ) scM0_2 fullShare (stAt m c n hn).a) ∗ (∃ r, prngReg c r)) := rfl

theorem PhiS_pos (c : Dev nD) (n : ℕ) (h : n ≤ cfg0.N) (hz : n ≠ 0) :
    PhiS m c n h = iprop(iprop(owns (c : Thread nD τ) scM0_0 fullShare (stAt m c (n - 1) (by omega)).m ∗ owns (c : Thread nD τ) scM0_1 fullShare (stAt m c (n - 1) (by omega)).l ∗ owns (c : Thread nD τ) scM0_2 fullShare (stAt m c (n - 1) (by omega)).a) ∗ (∃ r, prngReg c r)) := by
  cases n with
  | zero => exact absurd rfl hz
  | succ n => rfl

/-- The proof data of the pipeline on core `c`: the arrays as the region finds them, each input's buffer left at its block,
    the outputs' at what the last point of the sequence writes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outY (ins m c t) (stAt m c t.val t.isLt)
    | ⟨9, _⟩ => outK (ins m c t)
    | ⟨10, _⟩ => outV (ins m c t)
  Φ t := PhiS m c t.val (Nat.le_of_lt_succ t.isLt)
  q _ := fullShare
  owed _ := 0

/-- The proof data's arrays are the contents the region finds. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outY (ins m c t) (stAt m c t.val t.isLt) := by dsimp only [dats]
theorem after0_9 (c : Dev nD) (t : Fin cfg0.N) : (dats m 0 c).after 9 t = outK (ins m c t) := by dsimp only [dats]
theorem after0_10 (c : Dev nD) (t : Fin cfg0.N) : (dats m 0 c).after 10 t = outV (ins m c t) := by dsimp only [dats]
/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  by_cases h0 : t.val % 8 = 0
  · have h3 : ¬t.val % 8 = 7 := by omega
    rw [Dat.leavesExact_idle (dats m 0 c) 8 t (idleAt0_8 t h3) (noFlush0_8 t h3)]
    rw [Dat.leavesExact_idle (dats m 0 c) 9 t (idleAt0_9 t h3) (noFlush0_9 t h3)]
    rw [Dat.leavesExact_idle (dats m 0 c) 10 t (idleAt0_10 t h3) (noFlush0_10 t h3)]
    by_cases hz : t.val = 0
    · rw [PhiS_castSucc m c t, PhiS_zero m c _ _ hz, PhiA0_eq]
      by_cases he : exBit (ins m c t).ks (ins m c t).vs = 1#1
      ·
        have hu := stAt_first m c t h0
        unfold upd at hu; rw [if_pos he] at hu
        rw [hu]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runFstEx c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((cFst_iff t).mpr h0) (fun h => h3 ((cLst_iff t).mp h)) (ins m c t) _ _ _ he Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10
      ·
        have hu := stAt_first m c t h0
        unfold upd at hu; rw [if_neg he] at hu
        rw [hu]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runFstGen c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((cFst_iff t).mpr h0) (fun h => h3 ((cLst_iff t).mp h)) (ins m c t) _ _ _ he Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10
    · rw [PhiS_castSucc m c t, PhiS_pos m c _ _ hz]
      by_cases he : exBit (ins m c t).ks (ins m c t).vs = 1#1
      ·
        have hu := stAt_first m c t h0
        unfold upd at hu; rw [if_pos he] at hu
        rw [hu]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runFstEx c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((cFst_iff t).mpr h0) (fun h => h3 ((cLst_iff t).mp h)) (ins m c t) _ _ _ he Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        isplitl [HS1]; · iexists _; iexact HS1
        isplitl [HS2]; · iexists _; iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10
      ·
        have hu := stAt_first m c t h0
        unfold upd at hu; rw [if_neg he] at hu
        rw [hu]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runFstGen c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((cFst_iff t).mpr h0) (fun h => h3 ((cLst_iff t).mp h)) (ins m c t) _ _ _ he Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        isplitl [HS1]; · iexists _; iexact HS1
        isplitl [HS2]; · iexists _; iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10
  · have hz : t.val ≠ 0 := fun h => h0 (by rw [h])
    rw [PhiS_castSucc m c t, PhiS_pos m c _ _ hz]
    by_cases h3 : t.val % 8 = 7
    ·
      rw [show (dats m 0 c).leavesExact 8 t = owns (c : Thread nD τ) (ms0_8 t) fullShare ((dats m 0 c).after 8 t) from by
        unfold Dat.leavesExact; rw [liveAt0_8 t h3], after0_8]
      rw [show (dats m 0 c).leavesExact 9 t = owns (c : Thread nD τ) (ms0_9 t) fullShare ((dats m 0 c).after 9 t) from by
        unfold Dat.leavesExact; rw [liveAt0_9 t h3], after0_9]
      rw [show (dats m 0 c).leavesExact 10 t = owns (c : Thread nD τ) (ms0_10 t) fullShare ((dats m 0 c).after 10 t) from by
        unfold Dat.leavesExact; rw [liveAt0_10 t h3], after0_10]
      by_cases he : exBit (ins m c t).ks (ins m c t).vs = 1#1
      ·
        have hu := stAt_next m c t h0
        unfold upd at hu; rw [if_pos he] at hu
        rw [hu]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runLstEx c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((cFst_iff t).mp h)) ((cLst_iff t).mpr h3) (ins m c t) (stAt m c (t.val - 1) (by omega)) he Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      ·
        have hu := stAt_next m c t h0
        unfold upd at hu; rw [if_neg he] at hu
        rw [hu]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runLstGen c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((cFst_iff t).mp h)) ((cLst_iff t).mpr h3) (ins m c t) (stAt m c (t.val - 1) (by omega)) he Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
    ·
      rw [Dat.leavesExact_idle (dats m 0 c) 8 t (idleAt0_8 t h3) (noFlush0_8 t h3)]
      rw [Dat.leavesExact_idle (dats m 0 c) 9 t (idleAt0_9 t h3) (noFlush0_9 t h3)]
      rw [Dat.leavesExact_idle (dats m 0 c) 10 t (idleAt0_10 t h3) (noFlush0_10 t h3)]
      by_cases he : exBit (ins m c t).ks (ins m c t).vs = 1#1
      ·
        have hu := stAt_next m c t h0
        unfold upd at hu; rw [if_pos he] at hu
        rw [hu]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runMidEx c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((cFst_iff t).mp h)) (fun h => h3 ((cLst_iff t).mp h)) (ins m c t) (stAt m c (t.val - 1) (by omega)) _ _ _ he Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10
      ·
        have hu := stAt_next m c t h0
        unfold upd at hu; rw [if_neg he] at hu
        rw [hu]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runMidGen c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((cFst_iff t).mp h)) (fun h => h3 ((cLst_iff t).mp h)) (ins m c t) (stAt m c (t.val - 1) (by omega)) _ _ _ he Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

-- the implicit arguments are found by unifying with the conclusion, which takes unfolding plain definitions in a type
set_option backward.isDefEq.respectTransparency.types false in
/-- The run of the whole program: it terminates, every array ends at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame claim, at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Run

end
-- ==== Proof.KernelIdeal.Host.lean ====
/-
  What the host lines before the kernel compute, index by index at the ideal instance: the plain query, the
  block-diagonal query and the two transposed caches, as functions of the argument arrays.
-/
module

public import proofs.«01_k».proof.Proof.Gen.KernelIdeal.Frame
public import Idealize.ShloMosaic.Lib.Pointwise
public import Idealize.ShloMosaic.Lib.StableHlo.Run
public import Idealize.ShloMosaic.Lib.Tactic

@[expose] public section

noncomputable section

namespace Cert.KernelIdeal.Run

open Cert.KernelIdeal Cert.KernelIdeal.Gen
open Idealize.ShloMosaic Idealize.ShloMosaic.TcCoe

variable (m : (ℓ : Loc nD τ sig) → Buf (Elt Ideal) ℓ) (c : Dev nD)

/-- The truncating quotient of a row of 64 by 16, corrected to the floor the way the program does, meets the head
    number exactly when the row is one of that head's sixteen. -/
theorem mask_word : ∀ (r : Fin 64) (h : Fin 4),
    IntOp.cmpi CmpIPredicate.eq
      (Scalar.select
        (IntOp.andi
          (IntOp.cmpi CmpIPredicate.ne
            (if BitVec.ofNat 32 r.val = 0 then (0 : BitVec 32) else if (BitVec.ofNat 32 r.val).msb = true then -1 else 1)
            (if 16#32 = 0 then (0 : BitVec 32) else if BitVec.msb 16#32 = true then -1 else 1))
          (IntOp.cmpi CmpIPredicate.ne (IntOp.remsi ArithUnit.host (BitVec.ofNat 32 r.val) 16#32) 0#32))
        (IntOp.subi (IntOp.divsi ArithUnit.host (BitVec.ofNat 32 r.val) 16#32) 1#32)
        (IntOp.divsi ArithUnit.host (BitVec.ofNat 32 r.val) 16#32))
      (BitVec.ofNat 32 h.val) = if r.val / 16 = h.val then 1#1 else 0#1 := by
  decide +kernel

/-- Splitting a row of 4096 lanes into 64 rows of 64. -/
theorem split_lanes (X : S4x1x4096.Idx → EReal) (h : S4x1x4096.ShapeCasts S4x64x64) (b : Fin 4) (r : Fin 64) (d : Fin 64) :
    shapeCast S4x64x64 X h (ix3 b r d) = X (ix3 b 0 ⟨r.val * 64 + d.val, by omega⟩) := by
  pointwise

/-- The plain query: row `r` of 64 lanes of a sequence. -/
theorem V_v0_apply (b : Fin 4) (r : Fin 64) (d : Fin 64) : (V m c main_v0 : S4x64x64.Idx → EReal) (ix3 b r d)
    = (m ((c : Thread nD τ).loc main_arg0) : S4x1x4096.Idx → EReal) (ix3 b 0 ⟨r.val * 64 + d.val, by omega⟩) := by
  have e : (V m c main_v0 : S4x64x64.Idx → EReal) = shapeCast S4x64x64 (m ((c : Thread nD τ).loc main_arg0)) shapeCasts_S4x1x4096_S4x64x64 := by
    show StableHlo.after _ _ _ = _
    simp only [List.flatten_cons, List.flatten_nil, List.append_nil, List.cons_append, List.nil_append]
    after_results
    rfl
  rw [e]
  exact split_lanes _ _ b r d

/-- The test the host prints for "row `r` belongs to head `h`", as one array. -/
def maskArr : S64x4.Idx → BitVec 1 :=
  cmpi CmpIPredicate.eq
    (broadcastInDim S64x4 ![0, 1] bcast_S64x1_S64x4_0_1
      (select
        (andi
          (cmpi CmpIPredicate.ne (signi (broadcastInDim S64x1 ![0] bcast_S64_S64x1_0 (iotaInDim S64 32 0)))
            (broadcastInDim S64x1 ![] bcast_S_S64x1 (signi (constantI S_ 32 16#32))))
          (cmpi CmpIPredicate.ne
            (Host.remsi (broadcastInDim S64x1 ![0] bcast_S64_S64x1_0 (iotaInDim S64 32 0))
              (broadcastInDim S64x1 ![] bcast_S_S64x1 (constantI S_ 32 16#32)))
            (broadcastInDim S64x1 ![] bcast_S_S64x1 (constantI S_ 32 0#32))))
        (subi
          (Host.divsi (broadcastInDim S64x1 ![0] bcast_S64_S64x1_0 (iotaInDim S64 32 0))
            (broadcastInDim S64x1 ![] bcast_S_S64x1 (constantI S_ 32 16#32)))
          (broadcastInDim S64x1 ![] bcast_S_S64x1 (constantI S_ 32 1#32)))
        (Host.divsi (broadcastInDim S64x1 ![0] bcast_S64_S64x1_0 (iotaInDim S64 32 0))
          (broadcastInDim S64x1 ![] bcast_S_S64x1 (constantI S_ 32 16#32)))))
    (broadcastInDim S64x4 ![0, 1] bcast_S1x4_S64x4_0_1
      (broadcastInDim S1x4 ![1] bcast_S4_S1x4_1 (iotaInDim S4 32 0)))

/-- It is one exactly on a head's own sixteen rows. -/
theorem maskArr_apply (r : Fin 64) (h : Fin 4) : maskArr (ix2 r h) = if r.val / 16 = h.val then 1#1 else 0#1 := by
  refine Eq.trans ?_ (mask_word r h)
  unfold maskArr
  pointwise

/-- Laying a query out over the heads' columns under a mask, read at an index. -/
theorem qbd_read (M : S64x4.Idx → BitVec 1) (X : FVec Ideal S4x64x64 .bf16) (b : Fin 4) (r : Fin 64) (k : Fin 256) :
    shapeCast S4x64x256
        (select
          (broadcastInDim S4x64x4x64 ![0, 1, 2, 3] bcast_S1x64x4x1_S4x64x4x64_0_1_2_3
            (broadcastInDim S1x64x4x1 ![1, 2] bcast_S64x4_S1x64x4x1_1_2 M))
          (broadcastInDim S4x64x4x64 ![0, 1, 2, 3] bcast_S4x64x1x64_S4x64x4x64_0_1_2_3
            (broadcastInDim S4x64x1x64 ![0, 1, 3] bcast_S4x64x64_S4x64x1x64_0_1_3 X))
          (broadcastInDim S4x64x4x64 ![] bcast_S_S4x64x4x64 (constant (F := Ideal) S_ FTy.bf16 0#16)))
        shapeCasts_S4x64x4x64_S4x64x256 (ix3 b r k)
      = Scalar.select (M (ix2 r ⟨k.val / 64, by omega⟩)) (X (ix3 b r ⟨k.val % 64, by omega⟩)) (0 : EReal) := by
  pointwise

/-- The block-diagonal query: row `r` holds its 64 lanes in the columns of its own head, zero elsewhere. -/
theorem V_v12_apply (b : Fin 4) (r : Fin 64) (k : Fin 256) : (V m c main_v12 : S4x64x256.Idx → EReal) (ix3 b r k)
    = (if r.val / 16 = k.val / 64 then
        ((m ((c : Thread nD τ).loc main_arg0) : S4x1x4096.Idx → EReal) (ix3 b 0 ⟨r.val * 64 + k.val % 64, by omega⟩) : EReal) else (0 : EReal) : EReal) := by
  have e : (V m c main_v12 : S4x64x256.Idx → EReal) = shapeCast S4x64x256
        (select
          (broadcastInDim S4x64x4x64 ![0, 1, 2, 3] bcast_S1x64x4x1_S4x64x4x64_0_1_2_3
            (broadcastInDim S1x64x4x1 ![1, 2] bcast_S64x4_S1x64x4x1_1_2 maskArr))
          (broadcastInDim S4x64x4x64 ![0, 1, 2, 3] bcast_S4x64x1x64_S4x64x4x64_0_1_2_3
            (broadcastInDim S4x64x1x64 ![0, 1, 3] bcast_S4x64x64_S4x64x1x64_0_1_3
              (shapeCast S4x64x64 (m ((c : Thread nD τ).loc main_arg0)) shapeCasts_S4x1x4096_S4x64x64)))
          (broadcastInDim S4x64x4x64 ![] bcast_S_S4x64x4x64 (constant (F := Ideal) S_ FTy.bf16 0#16)))
        shapeCasts_S4x64x4x64_S4x64x256 := by
    show StableHlo.after _ _ _ = _
    simp only [List.flatten_cons, List.flatten_nil, List.append_nil, List.cons_append, List.nil_append]
    after_results
    simp only [StableHlo.TRef.ofBuf_toBuf, StableHlo.TRef.toBuf, StableHlo.TRef.ofBuf, cast_eq, id_eq]
    rfl
  rw [e, qbd_read, maskArr_apply, split_lanes]
  by_cases h : r.val / 16 = k.val / 64
  · rw [if_pos h, if_pos h, Scalar.select, if_pos (by decide)]
  · rw [if_neg h, if_neg h, Scalar.select, if_neg (by decide)]

/-- The transposed key cache: row `h*64+d`, column the position. -/
theorem V_v14_apply (b : Fin 4) (k : Fin 256) (t : Fin 32768) : (V m c main_v14 : S4x256x32768.Idx → EReal) (ix3 b k t)
    = (m ((c : Thread nD τ).loc main_arg3) : S4x32768x4x64.Idx → EReal) (ix4 b t ⟨k.val / 64, by omega⟩ ⟨k.val % 64, by omega⟩) := by
  have e : (V m c main_v14 : S4x256x32768.Idx → EReal) =
      shapeCast S4x256x32768 (transpose S4x4x64x32768 [0, 2, 3, 1] (m ((c : Thread nD τ).loc main_arg3)) transposes_S4x32768x4x64_S4x4x64x32768_0_2_3_1) shapeCasts_S4x4x64x32768_S4x256x32768 := by
    show StableHlo.after _ _ _ = _
    simp only [List.flatten_cons, List.flatten_nil, List.append_nil, List.cons_append, List.nil_append]
    after_results
    rfl
  rw [e]
  pointwise

/-- The transposed value cache, likewise. -/
theorem V_v16_apply (b : Fin 4) (k : Fin 256) (t : Fin 32768) : (V m c main_v16 : S4x256x32768.Idx → EReal) (ix3 b k t)
    = (m ((c : Thread nD τ).loc main_arg5) : S4x32768x4x64.Idx → EReal) (ix4 b t ⟨k.val / 64, by omega⟩ ⟨k.val % 64, by omega⟩) := by
  have e : (V m c main_v16 : S4x256x32768.Idx → EReal) =
      shapeCast S4x256x32768 (transpose S4x4x64x32768 [0, 2, 3, 1] (m ((c : Thread nD τ).loc main_arg5)) transposes_S4x32768x4x64_S4x4x64x32768_0_2_3_1) shapeCasts_S4x4x64x32768_S4x256x32768 := by
    show StableHlo.after _ _ _ = _
    simp only [List.flatten_cons, List.flatten_nil, List.append_nil, List.cons_append, List.nil_append]
    after_results
    rfl
  rw [e]
  pointwise

end Cert.KernelIdeal.Run
-- ==== Proof.Algebra.lean ====
/-
  Facts about extended reals that the value proof rests on: the exponential, finite nonnegative factors taken out of sums,
  and the running softmax against the softmax of all positions at once.
-/
module

public import Idealize.ShloMosaic.PureOps.Ideal
public import Idealize.ShloMosaic.Lib.Pointwise

@[expose] public section

noncomputable section

namespace Cert.Alg

open Idealize.ShloMosaic
open scoped BigOperators

/-- The exponential over the extended reals is never negative. -/
theorem exp_nonneg (x : EReal) : 0 ≤ Ideal.exp x := by
  induction x with
  | bot => exact le_refl _
  | top => exact le_top
  | coe r => exact EReal.coe_nonneg.mpr (Real.exp_pos r).le

/-- The exponential of anything but `⊤` is not `⊤`. -/
theorem exp_ne_top {x : EReal} (h : x ≠ ⊤) : Ideal.exp x ≠ ⊤ := by
  induction x with
  | bot => exact EReal.zero_ne_top
  | top => exact absurd rfl h
  | coe r => exact EReal.coe_ne_top _

/-- A difference of a number and something at least as large is not `⊤` (`⊤ - ⊤` is `⊥` here). -/
theorem sub_ne_top {a b : EReal} (h : a ≤ b) : a - b ≠ ⊤ := by
  induction b with
  | bot => rw [le_bot_iff.mp h]; simp
  | top => simp [sub_eq_add_neg]
  | coe r =>
    induction a with
    | bot => simp
    | top => exact absurd h (by simp)
    | coe q => rw [← EReal.coe_sub]; exact EReal.coe_ne_top _

/-- A nonnegative finite factor goes into a finite sum. -/
theorem sum_mul {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- Moving the reference point of an exponential: from the old maximum to the new one, all three in order. -/
theorem exp_shift {s a b : EReal} (h1 : s ≤ a) (h2 : a ≤ b) : Ideal.exp (s - a) * Ideal.exp (a - b) = Ideal.exp (s - b) := by
  induction b with
  | top =>
    have e : ∀ x : EReal, Ideal.exp (x - ⊤) = 0 := fun x => by
      rw [sub_eq_add_neg, EReal.neg_top, EReal.add_bot]; rfl
    rw [e, e, mul_zero]
  | bot =>
    obtain rfl := le_bot_iff.mp h2
    obtain rfl := le_bot_iff.mp h1
    have e : Ideal.exp ((⊥ : EReal) - ⊥) = 0 := by rw [sub_eq_add_neg, EReal.bot_add]; rfl
    rw [e, mul_zero]
  | coe b =>
    have e : ∀ x : EReal, Ideal.exp ((⊥ : EReal) - x) = 0 := fun x => by rw [sub_eq_add_neg, EReal.bot_add]; rfl
    induction a with
    | bot => obtain rfl := le_bot_iff.mp h1; rw [e, e, zero_mul]
    | top => exact absurd h2 (by simp)
    | coe a =>
      induction s with
      | bot => rw [e, e, zero_mul]
      | top => exact absurd h1 (by simp)
      | coe s =>
        rw [← EReal.coe_sub, ← EReal.coe_sub, ← EReal.coe_sub]
        show ((Real.exp (s - a) : ℝ) : EReal) * ((Real.exp (a - b) : ℝ) : EReal) = ((Real.exp (s - b) : ℝ) : EReal)
        rw [← EReal.coe_mul, ← Real.exp_add]
        congr 2; ring

/-- The maximum of a family, from `⊥`, as the reductions compute it. -/
abbrev top {n : ℕ} (f : Fin n → EReal) : EReal := Finset.univ.fold max ⊥ f

/-- Each member is at most the maximum, -/
theorem le_top' {n : ℕ} (f : Fin n → EReal) (j : Fin n) : f j ≤ top f :=
  (Finset.le_fold_max (b := ⊥) (s := Finset.univ) (f := f) (f j)).mpr (Or.inr ⟨j, Finset.mem_univ _, le_rfl⟩)

/-- and the maximum is at most any bound of the members. -/
theorem top_le {n : ℕ} (f : Fin n → EReal) {c : EReal} (h : ∀ j, f j ≤ c) : top f ≤ c :=
  (Finset.fold_max_le (b := ⊥) (s := Finset.univ) (f := f) c).mpr ⟨bot_le, fun j _ => h j⟩

/-! ## The online softmax over tiles -/

section Online
variable {J : ℕ} (s : ℕ → Fin J → EReal) (v : ℕ → Fin J → EReal)

/-- The running maximum after `n` tiles of scores, -/
def mx : ℕ → EReal
  | 0 => ⊥
  | n + 1 => max (mx n) (top (s n))

/-- the running sum, -/
def sm : ℕ → EReal
  | 0 => 0
  | n + 1 => sm n * Ideal.exp (mx s n - mx s (n + 1)) + ∑ j, Ideal.exp (s n j - mx s (n + 1))

/-- and the running weighted sum. -/
def ac : ℕ → EReal
  | 0 => 0
  | n + 1 => ac n * Ideal.exp (mx s n - mx s (n + 1)) + ∑ j, Ideal.exp (s n j - mx s (n + 1)) * v n j

/-- The running maximum does not fall. -/
theorem mx_le_succ (n : ℕ) : mx s n ≤ mx s (n + 1) := le_max_left _ _

/-- Every score of an earlier tile is at most the running maximum. -/
theorem le_mx {n i : ℕ} (h : i < n) (j : Fin J) : s i j ≤ mx s n := by
  induction n with
  | zero => omega
  | succ n ih =>
    rcases Nat.lt_succ_iff_lt_or_eq.mp h with h | rfl
    · exact (ih h).trans (mx_le_succ s n)
    · exact (le_top' _ j).trans (le_max_right _ _)

/-- The running maximum is at most any bound of the earlier tiles' scores. -/
theorem mx_le {n : ℕ} {c : EReal} (h : ∀ i < n, ∀ j, s i j ≤ c) : mx s n ≤ c := by
  induction n with
  | zero => exact bot_le
  | succ n ih => exact max_le (ih fun i hi => h i (by omega)) (top_le _ (h n (by omega)))

/-- Moving a weighted sum of exponentials to a larger reference point is one multiplication. -/
theorem shift_sum (w : ℕ → Fin J → EReal) {n : ℕ} {a b : EReal} (h1 : ∀ i < n, ∀ j, s i j ≤ a) (h2 : a ≤ b) :
    (∑ i ∈ Finset.range n, ∑ j, Ideal.exp (s i j - a) * w i j) * Ideal.exp (a - b)
      = ∑ i ∈ Finset.range n, ∑ j, Ideal.exp (s i j - b) * w i j := by
  have h0 := exp_nonneg (a - b)
  have ht := exp_ne_top (sub_ne_top h2)
  rw [sum_mul _ _ h0 ht]
  refine Finset.sum_congr rfl fun i hi => ?_
  rw [sum_mul _ _ h0 ht]
  refine Finset.sum_congr rfl fun j _ => ?_
  rw [mul_right_comm, exp_shift (h1 i (Finset.mem_range.mp hi) j) h2]

/-- The running weighted sum is the weighted sum of all exponentials so far, at the running maximum. -/
theorem ac_eq (n : ℕ) : ac s v n = ∑ i ∈ Finset.range n, ∑ j, Ideal.exp (s i j - mx s n) * v i j := by
  induction n with
  | zero => rfl
  | succ n ih =>
    rw [Finset.sum_range_succ, ← shift_sum s v (fun i hi j => le_mx s hi j) (mx_le_succ s n), ← ih]
    rfl

/-- The running sum likewise. -/
theorem sm_eq (n : ℕ) : sm s n = ∑ i ∈ Finset.range n, ∑ j, Ideal.exp (s i j - mx s n) := by
  have h : sm s n = ac s (fun _ _ => 1) n := by
    induction n with
    | zero => rfl
    | succ n ih => simp only [sm, ac, ih, mul_one]
  rw [h, ac_eq]
  simp only [mul_one]

/-- THE FINISH: after `n` tiles the kernel folds one more score `sn` and value `vn` in and divides, its numerator first
    scaled by a nonnegative finite factor `w`; the result is the plain softmax over all tiles and the extra entry, the
    values scaled instead. -/
theorem finish (n : ℕ) (sn vn : EReal) {w : EReal} (h0 : 0 ≤ w) (ht : w ≠ ⊤) :
    Ideal.div (ac s v n * w * Ideal.exp (mx s n - max (mx s n) sn) + Ideal.exp (sn - max (mx s n) sn) * vn)
        (sm s n * Ideal.exp (mx s n - max (mx s n) sn) + Ideal.exp (sn - max (mx s n) sn))
      = Ideal.div ((∑ i ∈ Finset.range n, ∑ j, Ideal.exp (s i j - max (mx s n) sn) * (v i j * w))
            + Ideal.exp (sn - max (mx s n) sn) * vn)
          ((∑ i ∈ Finset.range n, ∑ j, Ideal.exp (s i j - max (mx s n) sn)) + Ideal.exp (sn - max (mx s n) sn)) := by
  have hle : mx s n ≤ max (mx s n) sn := le_max_left _ _
  have hs : ∀ i < n, ∀ j, s i j ≤ mx s n := fun i hi j => le_mx s hi j
  have e1 : ac s v n * w = ∑ i ∈ Finset.range n, ∑ j, Ideal.exp (s i j - mx s n) * (v i j * w) := by
    rw [ac_eq, sum_mul _ _ h0 ht]
    refine Finset.sum_congr rfl fun i _ => ?_
    rw [sum_mul _ _ h0 ht]
    exact Finset.sum_congr rfl fun j _ => mul_assoc _ _ _
  have e2 := shift_sum s (fun _ _ => 1) hs hle
  simp only [mul_one] at e2
  rw [e1, shift_sum s (fun i j => v i j * w) hs hle, sm_eq, e2]

end Online

/-! ## Tiles of one long row -/

section Tiles
variable {J : ℕ} (f : Fin (8 * J) → EReal)

/-- Position `j` of tile `i` in the long row. -/
abbrev at8 (i : ℕ) (j : Fin J) (h : i < 8) : Fin (8 * J) := ⟨i * J + j.val, by
  have := j.isLt
  calc i * J + j.val < i * J + J := by omega
    _ = (i + 1) * J := by ring
    _ ≤ 8 * J := Nat.mul_le_mul_right _ (by omega)⟩

/-- A family over the long row is cut into tiles (zero past the eighth). -/
def cut (i : ℕ) (j : Fin J) : EReal := if h : i < 8 then f (at8 i j h) else 0

/-- Within the eight tiles the cut family is the family. -/
theorem cut_of (i : ℕ) (j : Fin J) (h : i < 8) : cut f i j = f (at8 i j h) := dif_pos h

/-- A sum over the long row is the sum over the tiles. -/
theorem sum_cut : ∑ k, f k = ∑ i ∈ Finset.range 8, ∑ j, cut f i j := by
  rw [Finset.sum_range]
  rw [← (finProdFinEquiv (m := 8) (n := J)).sum_comp, Fintype.sum_prod_type]
  refine Finset.sum_congr rfl fun i _ => Finset.sum_congr rfl fun j _ => ?_
  rw [cut_of f _ _ i.isLt]
  refine congrArg f (Fin.ext ?_)
  show j.val + J * i.val = i.val * J + j.val
  rw [mul_comm, add_comm]

/-- The running maximum after the eight tiles is the maximum over the long row. -/
theorem mx_cut : mx (cut f) 8 = top f := by
  refine le_antisymm (mx_le _ fun i hi j => ?_) (top_le _ fun k => ?_)
  · rw [cut_of f i j hi]; exact le_top' f _
  · have hJ : 0 < J := by
      rcases Nat.eq_zero_or_pos J with rfl | h
      · exact absurd k.isLt (by simp)
      · exact h
    have hi : k.val / J < 8 := (Nat.div_lt_iff_lt_mul hJ).mpr k.isLt
    have h := le_mx (cut f) hi ⟨k.val % J, Nat.mod_lt _ hJ⟩
    rw [cut_of f _ _ hi] at h
    refine le_trans (le_of_eq (congrArg f (Fin.ext ?_))) h
    show k.val = k.val / J * J + k.val % J
    exact (Nat.div_add_mod' _ _).symm

end Tiles

end Cert.Alg
-- ==== Proof.Spec.lean ====
/-
  The function both programs are shown to compute: grouped-query attention of one new position over a quantised cache and
  the quantised new key and value, as plain sums and a plain softmax over the extended reals.
-/
module

public import proofs.«01_k».proof.Proof.Algebra

@[expose] public section

noncomputable section

namespace Cert.Spec

open Idealize.ShloMosaic
open scoped BigOperators

/-- The factor `1/8` on the scores. -/
abbrev c8 : EReal := Ideal.ofBits .f32 0x3E000000#32

/-- The quantiser of the new rows: divide by the scale, clip to the format's range, narrow (which is the identity here). -/
def quant (x s : EReal) : EReal := min (Ideal.ofBits .f32 0x43E00000#32) (max (Ideal.ofBits .f32 0xC3E00000#32) (Ideal.div x s))

/-- The arguments: the query by sequence, row and lane; the new key and value by sequence, head and lane; the two caches
    of codes by sequence, position, head and lane; the two scales by head. -/
structure Args where
  q : Fin 4 → Fin 64 → Fin 64 → EReal
  kn : Fin 4 → Fin 4 → Fin 64 → EReal
  vn : Fin 4 → Fin 4 → Fin 64 → EReal
  kc : Fin 4 → Fin 32768 → Fin 4 → Fin 64 → EReal
  ks : Fin 4 → EReal
  vc : Fin 4 → Fin 32768 → Fin 4 → Fin 64 → EReal
  vs : Fin 4 → EReal

variable (a : Args)

/-- The head a query row belongs to. -/
abbrev hd (r : Fin 64) : Fin 4 := ⟨r.val / 16, by omega⟩

/-- The score of a row against a past position. -/
def score (b : Fin 4) (r : Fin 64) (t : Fin 32768) : EReal :=
  (∑ d : Fin 64, a.q b r d * (a.kc b t (hd r) d * a.ks (hd r))) * c8

/-- The score against the new key. -/
def scoreNew (b : Fin 4) (r : Fin 64) : EReal :=
  (∑ d : Fin 64, a.q b r d * (quant (a.kn b (hd r) d) (a.ks (hd r)) * a.ks (hd r))) * c8

/-- A past value, -/
def val (b : Fin 4) (r d : Fin 64) (t : Fin 32768) : EReal := a.vc b t (hd r) d * a.vs (hd r)

/-- and the new one. -/
def valNew (b : Fin 4) (r d : Fin 64) : EReal := quant (a.vn b (hd r) d) (a.vs (hd r)) * a.vs (hd r)

/-- The largest score of a row. -/
def peak (b : Fin 4) (r : Fin 64) : EReal := max (Alg.top (score a b r)) (scoreNew a b r)

/-- The attention result. -/
def y (b : Fin 4) (r d : Fin 64) : EReal :=
  Ideal.div ((∑ t, Ideal.exp (score a b r t - peak a b r) * val a b r d t) + Ideal.exp (scoreNew a b r - peak a b r) * valNew a b r d)
    ((∑ t, Ideal.exp (score a b r t - peak a b r)) + Ideal.exp (scoreNew a b r - peak a b r))

/-! ## The three results as arrays -/

/-- The attention result by sequence, row and lane, -/
def resY : Shape.Idx ⟨3, ![4, 64, 64]⟩ → EReal := fun i => y a (i 0) (i 1) (i 2)

/-- The attention result at an index. -/
theorem resY_ix3 (b : Fin 4) (r d : Fin 64) : resY a (ix3 b r d) = y a b r d := rfl

/-- the quantised new key by sequence, head and lane, -/
def resK : Shape.Idx ⟨4, ![4, 1, 4, 64]⟩ → EReal := fun i => quant (a.kn (i 0) (i 2) (i 3)) (a.ks (i 2))

/-- and the quantised new value. -/
def resV : Shape.Idx ⟨4, ![4, 1, 4, 64]⟩ → EReal := fun i => quant (a.vn (i 0) (i 2) (i 3)) (a.vs (i 2))

/-! ## The block-diagonal product -/

/-- A sum over the 256 columns of the block-diagonal query is the sum over the 64 lanes of the row's own head. -/
theorem sum_heads (q : Fin 64 → EReal) (f : Fin 256 → EReal) (h : Fin 4) :
    (∑ x : Fin 256, (if h.val = x.val / 64 then q ⟨x.val % 64, by omega⟩ else 0) * f x)
      = ∑ d : Fin 64, q d * f ⟨h.val * 64 + d.val, by omega⟩ := by
  have e : (∑ x : Fin 256, (if h.val = x.val / 64 then q ⟨x.val % 64, by omega⟩ else 0) * f x)
      = ∑ g : Fin 4, ∑ d : Fin 64, (if h = g then q d else 0) * f ⟨g.val * 64 + d.val, by omega⟩ := by
    rw [← (finProdFinEquiv (m := 4) (n := 64)).sum_comp, Fintype.sum_prod_type]
    refine Finset.sum_congr rfl fun g _ => Finset.sum_congr rfl fun d _ => ?_
    have h1 : (finProdFinEquiv (m := 4) (n := 64) (g, d)).val = d.val + 64 * g.val := rfl
    have h2 : finProdFinEquiv (m := 4) (n := 64) (g, d) = (⟨g.val * 64 + d.val, by omega⟩ : Fin 256) := Fin.ext (by rw [h1]; dsimp only; omega)
    rw [h2]
    refine congrArg (· * _) ?_
    have h3 : (g.val * 64 + d.val) / 64 = g.val := by omega
    have h4 : (⟨(g.val * 64 + d.val) % 64, by omega⟩ : Fin 64) = d := Fin.ext (by dsimp only; omega)
    dsimp only
    rw [h3, h4]
    simp only [Fin.ext_iff]
  rw [e, Finset.sum_eq_single h]
  · simp only [if_true]
  · intro g _ hg
    simp only [if_neg (Ne.symm hg), zero_mul, Finset.sum_const_zero]
  · intro hn; exact absurd (Finset.mem_univ _) hn

/-- Taking a nonnegative finite scale out of a score's sum. -/
theorem scale_out (q k : Fin 64 → EReal) {s : EReal} (h0 : 0 ≤ s) (ht : s ≠ ⊤) :
    (∑ d, q d * k d) * (s * c8) = (∑ d, q d * (k d * s)) * c8 := by
  rw [← mul_assoc, Alg.sum_mul _ _ h0 ht]
  simp only [mul_assoc]

end Cert.Spec
-- ==== Proof.KernelIdeal.Pay.lean ====
/-
  What one grid point of the attention kernel computes at the ideal instance, index by index.
-/
module

public import proofs.«01_k».proof.Proof.KernelIdeal.Step
public import proofs.«01_k».proof.Proof.Spec
public import Idealize.ShloMosaic.Lib.Pointwise

@[expose] public section

noncomputable section

namespace Cert.KernelIdeal.Run

open Cert.KernelIdeal Cert.KernelIdeal.Gen
open Idealize.ShloMosaic Idealize.ShloMosaic.TcCoe
open scoped BigOperators
open Cert.Spec (quant c8)

/-- Two matrix indices are equal when their numbers are. -/
theorem ix2_congr {a b : ℕ} {i i' : Fin a} {j j' : Fin b} (h : i.val = i'.val) (h' : j.val = j'.val) : ix2 i j = ix2 i' j' := by
  obtain rfl := Fin.ext h; obtain rfl := Fin.ext h'; rfl

/-- Choosing one of four numbers by a head number. -/
def pick (a b c d : EReal) (h : ℕ) : EReal := if h = 0 then a else if h = 1 then b else if h = 2 then c else d

/-- Four pieces of 16 rows, stacked: the piece is chosen by the row over 16. -/
theorem pick16 (a b c d : EReal) (r : Fin 64) :
    (if h : r.val < 16 then a else if h : r.val - 16 < 16 then b else if h : r.val - 16 - 16 < 16 then c else d) = pick a b c d (r.val / 16) := by
  unfold pick
  split_ifs <;> first | rfl | omega

/-- Four pieces of 64 rows, stacked: the piece is chosen by the row over 64. -/
theorem pick64 (a b c d : EReal) (r : Fin 256) :
    (if h : r.val < 64 then a else if h : r.val - 64 < 64 then b else if h : r.val - 64 - 64 < 64 then c else d) = pick a b c d (r.val / 64) := by
  unfold pick
  split_ifs <;> first | rfl | omega

/-- Four single rows, stacked: the row is the piece. -/
theorem pick1 (a b c d : EReal) (r : Fin 4) :
    (if h : r.val < 1 then a else if h : r.val - 1 < 1 then b else if h : r.val - 1 - 1 < 1 then c else d) = pick a b c d r.val := by
  unfold pick
  split_ifs <;> first | rfl | omega

/-- Four pieces of 16 rows that are values of one function, stacked: the function at the row over 16. -/
theorem pickf {f : Fin 4 → EReal} (r : Fin 64) :
    (if h : r.val < 16 then f 0 else if h : r.val - 16 < 16 then f 1 else if h : r.val - 16 - 16 < 16 then f 2 else f 3) = f ⟨r.val / 16, by omega⟩ := by
  split_ifs <;> exact congrArg f (Fin.ext (by simp; omega))

/-- Choosing among the four words of a scale vector is reading it at the head. -/
theorem pick_w (x : Vec Ideal S4 .f32) (h : Fin 4) : pick (w0 x) (w1 x) (w2 x) (w3 x) h.val = x (ix1 h) := by
  have e0 : w0 x = x (ix1 0) := congrArg x (funext fun a => by fin_cases a; rfl)
  have e1 : w1 x = x (ix1 1) := congrArg x (funext fun a => by fin_cases a; rfl)
  have e2 : w2 x = x (ix1 2) := congrArg x (funext fun a => by fin_cases a; rfl)
  have e3 : w3 x = x (ix1 3) := congrArg x (funext fun a => by fin_cases a; rfl)
  rw [e0, e1, e2, e3]
  fin_cases h <;> rfl

/-- The pattern the maximum reductions start from denotes `⊥`. -/
theorem neg_inf : Ideal.ofBits .f32 0xFF800000#32 = ⊥ := by simp [Ideal.ofBits, Ideal.ieee]

/-! ## The exact branch -/

/-- The key scale of a query row is that of its head, -/
theorem pay43_apply (a b c d : EReal) (r : Fin 64) : k0_pay43 (F := Ideal) a b c d (ix2 r 0) = pick a b c d (r.val / 16) := by
  pointwise [k0_pay43]
  exact pick16 a b c d r

/-- and so is the value scale. -/
theorem pay44_apply (a b c d : EReal) (r : Fin 64) : k0_pay44 (F := Ideal) a b c d (ix2 r 0) = pick a b c d (r.val / 16) := by
  pointwise [k0_pay44]
  exact pick16 a b c d r

section Ex
variable (k : FVec Ideal S64x1 .f32) (kt vt : Vec Ideal S1x256x4096 .fp8e4m3) (q : Vec Ideal S1x64x256 .bf16) (m l : Vec Ideal S64x1 .f32)
  (a : Vec Ideal S64x256 .f32)

/-- The scores of a tile: the product of the query row with the codes, times scale and softmax factor. -/
theorem pay2_apply (r : Fin 64) (j : Fin 4096) :
    k0_pay2 k kt q (ix2 r j) = (∑ x : Fin 256, q (ix3 0 r x) * kt (ix3 0 x j)) * (k (ix2 r 0) * c8) := by
  pointwise [k0_pay2]

/-- The new running maximum: the old one, or the largest score of the tile. -/
theorem pay3_apply (r : Fin 64) :
    k0_pay3 k kt q m (ix2 r 0) = max (m (ix2 r 0)) (Alg.top fun j => k0_pay2 k kt q (ix2 r j)) := by
  pointwise [k0_pay3]
  rw [neg_inf]

/-- The new running sum: the old one corrected, and the weights of the tile. -/
theorem pay6_apply (r : Fin 64) :
    k0_pay6 k kt q m l (ix2 r 0) = l (ix2 r 0) * Ideal.exp (m (ix2 r 0) - k0_pay3 k kt q m (ix2 r 0))
      + ∑ j : Fin 4096, Ideal.exp (k0_pay2 k kt q (ix2 r j) - k0_pay3 k kt q m (ix2 r 0)) := by
  pointwise [k0_pay6, k0_pay5, k0_pay4]

/-- The new accumulator: the old one corrected, and the weighted codes of the tile. -/
theorem pay7_apply (r : Fin 64) (x : Fin 256) :
    k0_pay7 k kt vt q m a (ix2 r x) = a (ix2 r x) * Ideal.exp (m (ix2 r 0) - k0_pay3 k kt q m (ix2 r 0))
      + ∑ j : Fin 4096, Ideal.exp (k0_pay2 k kt q (ix2 r j) - k0_pay3 k kt q m (ix2 r 0)) * vt (ix3 0 x j) := by
  pointwise [k0_pay7, k0_pay5, k0_pay4]

/-- The maximum is stored in every lane, -/
theorem pay8_apply (r : Fin 64) (c : Fin 128) : k0_pay45 (k0_pay8 k kt q m) (ix2 r c) = k0_pay3 k kt q m (ix2 r 0) := by
  pointwise [k0_pay45, k0_pay8]

/-- and so is the sum. -/
theorem pay46_apply (r : Fin 64) (c : Fin 128) : k0_pay46 (F := Ideal) l (ix2 r c) = l (ix2 r 0) := by
  pointwise [k0_pay46]
end Ex

/-! ## The other branch -/

/-- A tile of values dequantised: codes times the scale of their head. -/
theorem pay9_apply (a b c d : EReal) (vt : Vec Ideal S1x256x4096 .fp8e4m3) (x : Fin 256) (j : Fin 4096) :
    k0_pay9 (F := Ideal) a b c d vt (ix2 x j) = vt (ix3 0 x j) * pick a b c d (x.val / 64) := by
  pointwise [k0_pay9]
  rw [pick64]

/-- The scores of a tile from dequantised keys. -/
theorem pay10_apply (a b c d : EReal) (kt : Vec Ideal S1x256x4096 .fp8e4m3) (q : Vec Ideal S1x64x256 .bf16) (r : Fin 64) (j : Fin 4096) :
    k0_pay10 (F := Ideal) a b c d kt q (ix2 r j) = (∑ x : Fin 256, q (ix3 0 r x) * (kt (ix3 0 x j) * pick a b c d (x.val / 64))) * c8 := by
  pointwise [k0_pay10]
  simp only [pick64]

/-- The largest score of a row of the tile. -/
theorem pay11_apply (a b c d : EReal) (kt : Vec Ideal S1x256x4096 .fp8e4m3) (q : Vec Ideal S1x64x256 .bf16) (r : Fin 64) :
    k0_pay11 (F := Ideal) a b c d kt q (ix1 r) = Alg.top fun j => k0_pay10 (F := Ideal) a b c d kt q (ix2 r j) := by
  pointwise [k0_pay11]
  rw [neg_inf]

section Gen
variable (s : FVec Ideal S64x4096 .f32) (v : FVec Ideal S256x4096 .bf16) (t : FVec Ideal S64 .f32) (m l : Vec Ideal S64x1 .f32)
  (a : Vec Ideal S64x256 .f32)

/-- The new accumulator: the old one corrected, and the weighted values of the tile. -/
theorem pay50_apply (r : Fin 64) (x : Fin 256) :
    k0_pay50 v s m t a (ix2 r x) = a (ix2 r x) * Ideal.exp (m (ix2 r 0) - max (m (ix2 r 0)) (t (ix1 r)))
      + ∑ j : Fin 4096, Ideal.exp (s (ix2 r j) - max (m (ix2 r 0)) (t (ix1 r))) * v (ix2 x j) := by
  pointwise [k0_pay50, k0_pay49, k0_pay48, k0_pay47]

/-- The new running maximum, in every lane. -/
theorem pay51_apply (r : Fin 64) (c : Fin 128) : k0_pay51 m t (ix2 r c) = max (m (ix2 r 0)) (t (ix1 r)) := by
  pointwise [k0_pay51, k0_pay47]

/-- The new running sum, in every lane. -/
theorem pay52_apply (r : Fin 64) (c : Fin 128) :
    k0_pay52 s m t l (ix2 r c) = l (ix2 r 0) * Ideal.exp (m (ix2 r 0) - max (m (ix2 r 0)) (t (ix1 r)))
      + ∑ j : Fin 4096, Ideal.exp (s (ix2 r j) - max (m (ix2 r 0)) (t (ix1 r))) := by
  pointwise [k0_pay52, k0_pay49, k0_pay48, k0_pay47]
end Gen

/-! ## The last point -/

/-- The new key quantised, -/
theorem pay13_apply (a b c d : EReal) (x : Vec Ideal S1x1x4x64 .bf16) (h : Fin 4) (e : Fin 64) :
    k0_pay13 (F := Ideal) a b c d x (ix2 h e) = quant (x (ix4 0 0 h e)) (pick a b c d h.val) := by
  pointwise [k0_pay13, k0_pay12]
  rw [pick1]
  rfl

/-- and the new value. -/
theorem pay16_apply (a b c d : EReal) (x : Vec Ideal S1x1x4x64 .bf16) (h : Fin 4) (e : Fin 64) :
    k0_pay16 (F := Ideal) a b c d x (ix2 h e) = quant (x (ix4 0 0 h e)) (pick a b c d h.val) := by
  pointwise [k0_pay16, k0_pay15]
  rw [pick1]
  rfl

/-- The new key, quantised and dequantised, -/
theorem pay14_apply (a b c d : EReal) (x : Vec Ideal S1x1x4x64 .bf16) (h : Fin 4) (e : Fin 64) :
    k0_pay14 (F := Ideal) a b c d x (ix2 h e) = quant (x (ix4 0 0 h e)) (pick a b c d h.val) * pick a b c d h.val := by
  rw [← pay13_apply]
  pointwise [k0_pay14, k0_pay12]
  rw [pick1]

/-- and the new value. -/
theorem pay18_apply (a b c d : EReal) (x : Vec Ideal S1x1x4x64 .bf16) (h : Fin 4) (e : Fin 64) :
    k0_pay18 (k0_pay15 (F := Ideal) a b c d) (k0_pay17 a b c d x) (ix2 h e) = quant (x (ix4 0 0 h e)) (pick a b c d h.val) * pick a b c d h.val := by
  rw [← pay16_apply]
  pointwise [k0_pay18, k0_pay15, k0_pay17]
  rw [pick1]

/-- The stored codes of the new key are those of the matrix, -/
theorem pay19_apply (v : FVec Ideal S4x64 .fp8e4m3) (h : Fin 4) (e : Fin 64) : k0_pay19 v (ix4 0 0 h e) = v (ix2 h e) := by
  pointwise [k0_pay19]

/-- and so are those of the new value. -/
theorem pay20_apply (v : FVec Ideal S4x64 .fp8e4m3) (h : Fin 4) (e : Fin 64) : k0_pay20 v (ix4 0 0 h e) = v (ix2 h e) := by
  pointwise [k0_pay20]

/-- The product of a query row with the new key of its head. -/
theorem pay22_apply (k : FVec Ideal S4x64 .bf16) (q : Vec Ideal S1x64x64 .bf16) (r : Fin 64) :
    k0_pay22 k q (ix2 r 0) = ∑ d : Fin 64, q (ix3 0 r d) * k (ix2 ⟨r.val / 16, by omega⟩ d) := by
  pointwise [k0_pay22]
  exact Finset.sum_congr rfl fun x _ => congrArg _ (pickf (f := fun h => k (ix2 h x)) r)

/-- The accumulator's diagonal blocks, gathered, times the value scale where the exactness bit is one. -/
theorem pay21_apply (b : BitVec 1) (v : FVec Ideal S64x1 .f32) (a : Vec Ideal S64x256 .f32) (r d : Fin 64) :
    k0_pay21 (F := Ideal) b v
      (View.ld (Val := Elt Ideal) (e' := .f32) a (Rect.unit (s := S64x256) ![0, 0] S16x64.size inb_S64x256_S16x64_0_0))
      (View.ld (Val := Elt Ideal) (e' := .f32) a (Rect.unit (s := S64x256) ![16, 64] S16x64.size inb_S64x256_S16x64_16_64))
      (View.ld (Val := Elt Ideal) (e' := .f32) a (Rect.unit (s := S64x256) ![32, 128] S16x64.size inb_S64x256_S16x64_32_128))
      (View.ld (Val := Elt Ideal) (e' := .f32) a (Rect.unit (s := S64x256) ![48, 192] S16x64.size inb_S64x256_S16x64_48_192)) (ix2 r d)
      = a (ix2 r ⟨r.val / 16 * 64 + d.val, by omega⟩) * (if b = 1#1 then v (ix2 r 0) else 1) := by
  pointwise [k0_pay21]
  have e : Scalar.select b (v (ix2 r 0)) 1 = if b = 1#1 then v (ix2 r 0) else 1 := rfl
  rw [e]
  refine congrArg (· * _) ?_
  split_ifs <;> exact congrArg a (ix2_congr (by first | rfl | (dsimp only; omega)) (by first | rfl | (dsimp only; omega)))

/-- The stored result: the gathered accumulator and the new position, over the sum of all weights. -/
theorem pay1_apply (vn : FVec Ideal S4x64 .bf16) (y : FVec Ideal S64x64 .f32) (s m l : Vec Ideal S64x1 .f32) (r d : Fin 64) :
    k0_pay1 vn y s m l (ix3 0 r d)
      = Ideal.div (y (ix2 r d) * Ideal.exp (m (ix2 r 0) - max (m (ix2 r 0)) (s (ix2 r 0) * c8))
          + Ideal.exp (s (ix2 r 0) * c8 - max (m (ix2 r 0)) (s (ix2 r 0) * c8)) * vn (ix2 ⟨r.val / 16, by omega⟩ d))
        (l (ix2 r 0) * Ideal.exp (m (ix2 r 0) - max (m (ix2 r 0)) (s (ix2 r 0) * c8))
          + Ideal.exp (s (ix2 r 0) * c8 - max (m (ix2 r 0)) (s (ix2 r 0) * c8))) := by
  pointwise [k0_pay1]
  rw [← pickf (f := fun h => vn (ix2 h d)) r]

/-- The scratch at the start: maximum `⊥`, sum and accumulator zero. -/
theorem init_apply (r : Fin 64) (c : Fin 128) (x : Fin 256) :
    (init (F := Ideal)).m (ix2 r c) = ⊥ ∧ (init (F := Ideal)).l (ix2 r c) = 0 ∧ (init (F := Ideal)).a (ix2 r x) = 0 := by
  refine ⟨?_, ?_, ?_⟩
  · show k0_pay23 (ix2 r c) = _
    pointwise [k0_pay23]
    exact neg_inf
  · show k0_pay24 (ix2 r c) = _
    pointwise [k0_pay24]
  · show k0_pay25 (ix2 r x) = _
    pointwise [k0_pay25]

/-! ## The exactness bit -/

/-- The exponent field of the pattern tested at row `i`, lane `j` is not all ones where the test allows the exponent. -/
theorem field_ne : ∀ (i : Fin 2) (j : Fin 128),
    IntOp.cmpi CmpIPredicate.sle (IntOp.addi (IntOp.muli (BitVec.ofNat 32 i.val) 128#32) (BitVec.ofNat 32 j.val)) 227#32 = 1#1 →
    ((IntOp.shli ArithUnit.vector (IntOp.addi (IntOp.muli (BitVec.ofNat 32 i.val) 128#32) (BitVec.ofNat 32 j.val)) 23#32).extractLsb' 23 8).toNat ≠ 255 := by
  decide +kernel

/-- A pattern whose exponent field is not all ones does not denote `⊤`. -/
theorem ofBits_ne_top (w : BitVec 32) (h : (w.extractLsb' 23 8).toNat ≠ 255) : Ideal.ofBits .f32 w ≠ ⊤ := by
  show Ideal.ieee 8 23 w ≠ ⊤
  unfold Ideal.ieee
  dsimp only
  rw [if_neg (show ¬ (w.extractLsb' 23 8).toNat = 2 ^ 8 - 1 from h)]
  split_ifs
  all_goals exact EReal.coe_ne_top _

/-- A conjunction of two bits is one only if both are. -/
theorem and_one : ∀ a b : BitVec 1, IntOp.andi a b = 1 → a = 1 ∧ b = 1 := by decide

/-- Where the test of one scale word succeeds, the word is not `⊤`. -/
theorem pay26_finite (a : EReal) (h : Scalar.cmpf .ogt (k0_pay26 (F := Ideal) a) (Scalar.ofBits .f32 0x00000000#32) = 1#1) : a ≠ ⊤ := by
  have h0 : 0 < k0_pay26 (F := Ideal) a := by
    have : BitVec.ofBool (decide (Ideal.ofBits .f32 0x00000000#32 < k0_pay26 (F := Ideal) a)) = 1#1 := h
    rw [Ideal.ofBits_zero_f32] at this
    by_contra hn
    rw [decide_eq_false hn] at this
    exact absurd this (by decide)
  revert h0
  pointwise [k0_pay26]
  rw [neg_inf]
  intro h0
  obtain h0 | ⟨x, -, hx⟩ := (Finset.lt_fold_max _).mp h0
  · exact absurd h0 (by simp)
  · rintro rfl
    unfold Scalar.select at hx
    split at hx
    · rename_i hb
      obtain ⟨h1, h3⟩ := and_one _ _ hb
      obtain ⟨h1, -⟩ := and_one _ _ h1
      refine ofBits_ne_top _ (field_ne x.1 x.2 h3) ?_
      have h4 : decide (FloatOps.absf (F := Ideal) (φ := .f32) ⊤ = Ideal.ofBits .f32 (IntOp.shli ArithUnit.vector
          (IntOp.addi (IntOp.muli (BitVec.ofNat 32 x.1.val) 128#32) (BitVec.ofNat 32 x.2.val)) 23#32)) = true := by
        by_contra hn
        rw [Bool.not_eq_true] at hn
        rw [hn] at h1
        exact absurd h1 (by decide)
      exact (of_decide_eq_true h4).symm.trans (max_eq_left le_top)
    · exact absurd hx (lt_irrefl _)

/-- Where the exactness bit is one, no scale is `⊤`. -/
theorem exBit_finite (ks vs : Vec Ideal S4 .f32) (h : exBit ks vs = 1#1) (n : Fin 4) : ks (ix1 n) ≠ ⊤ ∧ vs (ix1 n) ≠ ⊤ := by
  obtain ⟨h, h7⟩ := and_one _ _ h
  obtain ⟨h, h6⟩ := and_one _ _ h
  obtain ⟨h, h5⟩ := and_one _ _ h
  obtain ⟨h, h4⟩ := and_one _ _ h
  obtain ⟨h, h3⟩ := and_one _ _ h
  obtain ⟨h, h2⟩ := and_one _ _ h
  obtain ⟨h0, h1⟩ := and_one _ _ h
  have f0 := pay26_finite (w0 ks) h0
  have f1 := pay26_finite (w1 ks) h1
  have f2 := pay26_finite (w2 ks) h2
  have f3 := pay26_finite (w3 ks) h3
  have f4 := pay26_finite (w0 vs) h4
  have f5 := pay26_finite (w1 vs) h5
  have f6 := pay26_finite (w2 vs) h6
  have f7 := pay26_finite (w3 vs) h7
  rw [← pick_w ks n, ← pick_w vs n]
  unfold pick
  constructor
  · split_ifs <;> assumption
  · split_ifs <;> assumption

/-! ## The step -/

/-- The score of row `r` at position `j` of a tile, in the branch the bit chooses. -/
def sc (b : Ins Ideal) (r : Fin 64) (j : Fin 4096) : EReal :=
  if exBit b.ks b.vs = 1#1 then
    (∑ x : Fin 256, b.qbd (ix3 0 r x) * b.kt (ix3 0 x j)) * (b.ks (ix1 ⟨r.val / 16, by omega⟩) * c8)
  else (∑ x : Fin 256, b.qbd (ix3 0 r x) * (b.kt (ix3 0 x j) * b.ks (ix1 ⟨x.val / 64, by omega⟩))) * c8

/-- The value in row `x` at position `j` of a tile, as the accumulation takes it. -/
def vv (b : Ins Ideal) (x : Fin 256) (j : Fin 4096) : EReal :=
  if exBit b.ks b.vs = 1#1 then b.vt (ix3 0 x j) else b.vt (ix3 0 x j) * b.vs (ix1 ⟨x.val / 64, by omega⟩)

/-- The first lane of a scratch array. -/
theorem col_apply (x : Vec Ideal S64x128 .f32) (r : Fin 64) : col x (ix2 r 0) = x (ix2 r 0) :=
  congrArg x (funext fun a => Fin.ext (match a with
    | ⟨0, _⟩ => by show 0 + 1 * r.val = r.val; omega
    | ⟨1, _⟩ => rfl))

/-- The exact branch's scores are `sc`, -/
theorem pay2_sc (b : Ins Ideal) (h : exBit b.ks b.vs = 1#1) (r : Fin 64) (j : Fin 4096) :
    k0_pay2 (k0_pay43 (w0 b.ks) (w1 b.ks) (w2 b.ks) (w3 b.ks)) b.kt b.qbd (ix2 r j) = sc b r j := by
  rw [pay2_apply, pay43_apply, pick_w b.ks ⟨r.val / 16, by omega⟩, sc, if_pos h]

/-- and so are the other branch's. -/
theorem pay10_sc (b : Ins Ideal) (h : ¬exBit b.ks b.vs = 1#1) (r : Fin 64) (j : Fin 4096) :
    k0_pay10 (w0 b.ks) (w1 b.ks) (w2 b.ks) (w3 b.ks) b.kt b.qbd (ix2 r j) = sc b r j := by
  rw [pay10_apply, sc, if_neg h]
  refine congrArg (· * c8) (Finset.sum_congr rfl fun x _ => ?_)
  rw [pick_w b.ks ⟨x.val / 64, by omega⟩]

/-- A point's new running maximum, -/
theorem upd_m (b : Ins Ideal) (s : St Ideal) (r : Fin 64) (c : Fin 128) :
    (upd b s).m (ix2 r c) = max (s.m (ix2 r 0)) (Alg.top (sc b r)) := by
  unfold upd
  split
  · rename_i h
    dsimp only [stepEx]
    rw [pay8_apply, pay3_apply, lt_eq, lqbd_eq, col_apply]
    simp only [pay2_sc b h]
  · rename_i h
    show k0_pay51 _ _ _ = _
    rw [pay51_apply, pay11_apply, lt_eq, lqbd_eq, col_apply]
    simp only [pay10_sc b h]

/-- its new running sum, -/
theorem upd_l (b : Ins Ideal) (s : St Ideal) (r : Fin 64) (c : Fin 128) :
    (upd b s).l (ix2 r c) = s.l (ix2 r 0) * Ideal.exp (s.m (ix2 r 0) - max (s.m (ix2 r 0)) (Alg.top (sc b r)))
      + ∑ j, Ideal.exp (sc b r j - max (s.m (ix2 r 0)) (Alg.top (sc b r))) := by
  unfold upd
  split
  · rename_i h
    dsimp only [stepEx]
    rw [pay46_apply, pay6_apply, pay3_apply, lt_eq, lqbd_eq, col_apply, col_apply]
    simp only [pay2_sc b h]
  · rename_i h
    show k0_pay52 _ _ _ _ _ = _
    rw [pay52_apply, pay11_apply, lt_eq, lqbd_eq, col_apply, col_apply]
    simp only [pay10_sc b h]

/-- and its new running numerator. -/
theorem upd_a (b : Ins Ideal) (s : St Ideal) (r : Fin 64) (x : Fin 256) :
    (upd b s).a (ix2 r x) = s.a (ix2 r x) * Ideal.exp (s.m (ix2 r 0) - max (s.m (ix2 r 0)) (Alg.top (sc b r)))
      + ∑ j, Ideal.exp (sc b r j - max (s.m (ix2 r 0)) (Alg.top (sc b r))) * vv b x j := by
  unfold upd
  split
  · rename_i h
    show k0_pay7 _ _ _ _ _ _ _ = _
    rw [pay7_apply, pay3_apply, lt_eq, lt_eq, lqbd_eq, la_eq, col_apply]
    simp only [pay2_sc b h, vv, if_pos h]
  · rename_i h
    show k0_pay50 _ _ _ _ _ _ = _
    rw [pay50_apply, pay11_apply, lt_eq, lt_eq, lqbd_eq, la_eq, col_apply]
    simp only [pay10_sc b h, pay9_apply, vv, if_neg h]
    refine congrArg (_ + ·) (Finset.sum_congr rfl fun j _ => ?_)
    rw [pick_w b.vs ⟨x.val / 64, by omega⟩]

/-! ## The last point -/

/-- The score of the new key, -/
def sn (b : Ins Ideal) (r : Fin 64) : EReal :=
  (∑ d : Fin 64, b.q (ix3 0 r d) * (quant (b.kn (ix4 0 0 ⟨r.val / 16, by omega⟩ d)) (b.ks (ix1 ⟨r.val / 16, by omega⟩)) * b.ks (ix1 ⟨r.val / 16, by omega⟩))) * c8

/-- the new value, -/
def vn (b : Ins Ideal) (r d : Fin 64) : EReal :=
  quant (b.vn (ix4 0 0 ⟨r.val / 16, by omega⟩ d)) (b.vs (ix1 ⟨r.val / 16, by omega⟩)) * b.vs (ix1 ⟨r.val / 16, by omega⟩)

/-- and what the numerator is scaled by: the value scale after exact accumulation, one otherwise. -/
def wt (b : Ins Ideal) (r : Fin 64) : EReal := if exBit b.ks b.vs = 1#1 then b.vs (ix1 ⟨r.val / 16, by omega⟩) else 1

/-- The attention result a sequence's last point writes. -/
theorem outY_apply (b : Ins Ideal) (s : St Ideal) (r d : Fin 64) :
    outY b s (ix3 0 r d)
      = Ideal.div (s.a (ix2 r ⟨r.val / 16 * 64 + d.val, by omega⟩) * wt b r * Ideal.exp (s.m (ix2 r 0) - max (s.m (ix2 r 0)) (sn b r))
          + Ideal.exp (sn b r - max (s.m (ix2 r 0)) (sn b r)) * vn b r d)
        (s.l (ix2 r 0) * Ideal.exp (s.m (ix2 r 0) - max (s.m (ix2 r 0)) (sn b r)) + Ideal.exp (sn b r - max (s.m (ix2 r 0)) (sn b r))) := by
  have e : k0_pay22 (k0_pay14 (w0 b.ks) (w1 b.ks) (w2 b.ks) (w3 b.ks) (ln b.kn)) (lq b.q) (ix2 r 0) * c8 = sn b r := by
    rw [pay22_apply, ln_eq, lq_eq]
    have e' := pick_w b.ks ⟨r.val / 16, by omega⟩
    dsimp only at e'
    simp only [pay14_apply, e']
    rfl
  unfold outY
  rw [pay1_apply, e, pay21_apply, pay18_apply, pay44_apply, col_apply, col_apply, ln_eq,
    pick_w b.vs ⟨r.val / 16, by omega⟩]
  rfl

/-- The new key row it writes, -/
theorem outK_apply (b : Ins Ideal) (h : Fin 4) (d : Fin 64) : outK b (ix4 0 0 h d) = quant (b.kn (ix4 0 0 h d)) (b.ks (ix1 h)) := by
  unfold outK
  rw [pay19_apply, pay13_apply, ln_eq, pick_w]

/-- and the new value row. -/
theorem outV_apply (b : Ins Ideal) (h : Fin 4) (d : Fin 64) : outV b (ix4 0 0 h d) = quant (b.vn (ix4 0 0 h d)) (b.vs (ix1 h)) := by
  unfold outV
  rw [pay20_apply, pay16_apply, ln_eq, pick_w]

end Cert.KernelIdeal.Run
-- ==== Proof.KernelIdeal.Value.lean ====
/-
  The value of the attention kernel at the ideal instance: the blocks of every grid point as the argument arrays, the
  scratch after each tile as the online softmax of the scores so far, and the three results.
-/
module

public import proofs.«01_k».proof.Proof.KernelIdeal.Body
public import proofs.«01_k».proof.Proof.KernelIdeal.Host
public import proofs.«01_k».proof.Proof.KernelIdeal.Pay
public import proofs.«01_k».proof.Proof.Spec
public import Idealize.ShloMosaic.Lib.Pipeline.Value

@[expose] public section

noncomputable section

namespace Cert.KernelIdeal.Run

open Cert.KernelIdeal Cert.KernelIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- The arguments of a launch, by their indices. -/
def args : Spec.Args where
  q b r d := (m ((c : Thread nD τ).loc main_arg0) : S4x1x4096.Idx → EReal) (ix3 b 0 ⟨r.val * 64 + d.val, by omega⟩)
  kn b h d := (m ((c : Thread nD τ).loc main_arg1) : S4x1x4x64.Idx → EReal) (ix4 b 0 h d)
  vn b h d := (m ((c : Thread nD τ).loc main_arg2) : S4x1x4x64.Idx → EReal) (ix4 b 0 h d)
  kc b t h d := (m ((c : Thread nD τ).loc main_arg3) : S4x32768x4x64.Idx → EReal) (ix4 b t h d)
  ks h := (m ((c : Thread nD τ).loc main_arg4) : S4.Idx → EReal) (ix1 h)
  vc b t h d := (m ((c : Thread nD τ).loc main_arg5) : S4x32768x4x64.Idx → EReal) (ix4 b t h d)
  vs h := (m ((c : Thread nD τ).loc main_arg6) : S4.Idx → EReal) (ix1 h)

/-- The grid point of tile `i` of sequence `b`. -/
abbrev pt (b : Fin 4) (i : Fin 8) : Fin cfg0.N := ⟨b.val * 8 + i.val, by rw [show cfg0.N = 32 from N_0]; omega⟩

/-- Where each window's block lies at a grid point. -/
theorem index_facts : ∀ t : Fin grid0.N,
    (win0_0.index t 0 = 0 ∧ win0_1.index t 0 = 0)
    ∧ (win0_2.index t 0 = t.val / 8 ∧ win0_2.index t 1 = 0 ∧ win0_2.index t 2 = 0)
    ∧ (win0_3.index t 0 = t.val / 8 ∧ win0_3.index t 1 = 0 ∧ win0_3.index t 2 = 0)
    ∧ (win0_4.index t 0 = t.val / 8 ∧ win0_4.index t 1 = 0 ∧ win0_4.index t 2 = 0 ∧ win0_4.index t 3 = 0)
    ∧ (win0_5.index t 0 = t.val / 8 ∧ win0_5.index t 1 = 0 ∧ win0_5.index t 2 = 0 ∧ win0_5.index t 3 = 0)
    ∧ (win0_6.index t 0 = t.val / 8 ∧ win0_6.index t 1 = 0 ∧ win0_6.index t 2 = t.val % 8)
    ∧ (win0_7.index t 0 = t.val / 8 ∧ win0_7.index t 1 = 0 ∧ win0_7.index t 2 = t.val % 8)
    ∧ (win0_8.index t 0 = t.val / 8 ∧ win0_8.index t 1 = 0 ∧ win0_8.index t 2 = 0)
    ∧ (win0_9.index t 0 = t.val / 8 ∧ win0_9.index t 1 = 0 ∧ win0_9.index t 2 = 0 ∧ win0_9.index t 3 = 0)
    ∧ (win0_10.index t 0 = t.val / 8 ∧ win0_10.index t 1 = 0 ∧ win0_10.index t 2 = 0 ∧ win0_10.index t 3 = 0) := by
  decide +kernel

/-- The scale vectors at every grid point are the arguments', -/
theorem ins_ks (t : Fin cfg0.N) : (ins m c t).ks = (m ((c : Thread nD τ).loc main_arg4) : S4.Idx → EReal) := by
  funext j
  show iblk m c 0 t j = _
  unfold iblk
  rw [View.read_apply]
  show V m c main_arg4 _ = _
  rw [V_main_arg4]
  refine congrArg (m ((c : Thread nD τ).loc main_arg4)) (funext fun a => Fin.ext ?_)
  match a with
  | ⟨0, _⟩ => show win0_0.index t 0 * 4 + 1 * (j 0).val = (j 0).val; rw [(index_facts t).1.1]; omega

/-- both of them. -/
theorem ins_vs (t : Fin cfg0.N) : (ins m c t).vs = (m ((c : Thread nD τ).loc main_arg6) : S4.Idx → EReal) := by
  funext j
  show iblk m c 1 t j = _
  unfold iblk
  rw [View.read_apply]
  show V m c main_arg6 _ = _
  rw [V_main_arg6]
  refine congrArg (m ((c : Thread nD τ).loc main_arg6)) (funext fun a => Fin.ext ?_)
  match a with
  | ⟨0, _⟩ => show win0_1.index t 0 * 4 + 1 * (j 0).val = (j 0).val; rw [(index_facts t).1.2]; omega

/-- The key tile of a grid point, -/
theorem ins_kt (b : Fin 4) (i : Fin 8) (x : Fin 256) (j : Fin 4096) : (ins m c (pt b i)).kt (ix3 0 x j)
    = (args m c).kc b ⟨i.val * 4096 + j.val, by omega⟩ ⟨x.val / 64, by omega⟩ ⟨x.val % 64, by omega⟩ := by
  show iblk m c 6 (pt b i) (ix3 0 x j) = _
  unfold iblk
  rw [View.read_apply]
  refine Eq.trans ?_ (V_v14_apply m c b x ⟨i.val * 4096 + j.val, by omega⟩)
  show V m c main_v14 _ = _
  refine congrArg (V m c main_v14) (funext fun a => Fin.ext ?_)
  have e := (index_facts (pt b i)).2.2.2.2.2.1
  match a with
  | ⟨0, _⟩ => show win0_6.index (pt b i) 0 * 1 + 1 * 0 = b.val; rw [e.1]; dsimp only; omega
  | ⟨1, _⟩ => show win0_6.index (pt b i) 1 * 256 + 1 * x.val = x.val; rw [e.2.1]; omega
  | ⟨2, _⟩ => show win0_6.index (pt b i) 2 * 4096 + 1 * j.val = i.val * 4096 + j.val; rw [e.2.2]; dsimp only; omega

/-- the value tile, -/
theorem ins_vt (b : Fin 4) (i : Fin 8) (x : Fin 256) (j : Fin 4096) : (ins m c (pt b i)).vt (ix3 0 x j)
    = (args m c).vc b ⟨i.val * 4096 + j.val, by omega⟩ ⟨x.val / 64, by omega⟩ ⟨x.val % 64, by omega⟩ := by
  show iblk m c 7 (pt b i) (ix3 0 x j) = _
  unfold iblk
  rw [View.read_apply]
  refine Eq.trans ?_ (V_v16_apply m c b x ⟨i.val * 4096 + j.val, by omega⟩)
  show V m c main_v16 _ = _
  refine congrArg (V m c main_v16) (funext fun a => Fin.ext ?_)
  have e := (index_facts (pt b i)).2.2.2.2.2.2.1
  match a with
  | ⟨0, _⟩ => show win0_7.index (pt b i) 0 * 1 + 1 * 0 = b.val; rw [e.1]; dsimp only; omega
  | ⟨1, _⟩ => show win0_7.index (pt b i) 1 * 256 + 1 * x.val = x.val; rw [e.2.1]; omega
  | ⟨2, _⟩ => show win0_7.index (pt b i) 2 * 4096 + 1 * j.val = i.val * 4096 + j.val; rw [e.2.2]; dsimp only; omega

/-- the query, -/
theorem ins_q (b : Fin 4) (i : Fin 8) (r : Fin 64) (d : Fin 64) : (ins m c (pt b i)).q (ix3 0 r d)
    = (args m c).q b r d := by
  show iblk m c 3 (pt b i) (ix3 0 r d) = _
  unfold iblk
  rw [View.read_apply]
  refine Eq.trans ?_ (V_v0_apply m c b r d)
  show V m c main_v0 _ = _
  refine congrArg (V m c main_v0) (funext fun a => Fin.ext ?_)
  have e := (index_facts (pt b i)).2.2.1
  match a with
  | ⟨0, _⟩ => show win0_3.index (pt b i) 0 * 1 + 1 * 0 = b.val; rw [e.1]; dsimp only; omega
  | ⟨1, _⟩ => show win0_3.index (pt b i) 1 * 64 + 1 * r.val = r.val; rw [e.2.1]; omega
  | ⟨2, _⟩ => show win0_3.index (pt b i) 2 * 64 + 1 * d.val = d.val; rw [e.2.2]; omega

/-- the block-diagonal query, -/
theorem ins_qbd (b : Fin 4) (i : Fin 8) (r : Fin 64) (x : Fin 256) : (ins m c (pt b i)).qbd (ix3 0 r x)
    = (if r.val / 16 = x.val / 64 then (args m c).q b r ⟨x.val % 64, by omega⟩ else 0) := by
  show iblk m c 2 (pt b i) (ix3 0 r x) = _
  unfold iblk
  rw [View.read_apply]
  refine Eq.trans ?_ (V_v12_apply m c b r x)
  show V m c main_v12 _ = _
  refine congrArg (V m c main_v12) (funext fun a => Fin.ext ?_)
  have e := (index_facts (pt b i)).2.1
  match a with
  | ⟨0, _⟩ => show win0_2.index (pt b i) 0 * 1 + 1 * 0 = b.val; rw [e.1]; dsimp only; omega
  | ⟨1, _⟩ => show win0_2.index (pt b i) 1 * 64 + 1 * r.val = r.val; rw [e.2.1]; omega
  | ⟨2, _⟩ => show win0_2.index (pt b i) 2 * 256 + 1 * x.val = x.val; rw [e.2.2]; omega

/-- the new key -/
theorem ins_kn (b : Fin 4) (i : Fin 8) (h : Fin 4) (d : Fin 64) : (ins m c (pt b i)).kn (ix4 0 0 h d) = (args m c).kn b h d := by
  show iblk m c 4 (pt b i) (ix4 0 0 h d) = _
  unfold iblk
  rw [View.read_apply]
  show V m c main_arg1 _ = _
  rw [V_main_arg1]
  refine congrArg (m ((c : Thread nD τ).loc main_arg1)) (funext fun a => Fin.ext ?_)
  have e := (index_facts (pt b i)).2.2.2.1
  match a with
  | ⟨0, _⟩ => show win0_4.index (pt b i) 0 * 1 + 1 * 0 = b.val; rw [e.1]; dsimp only; omega
  | ⟨1, _⟩ => show win0_4.index (pt b i) 1 * 1 + 1 * 0 = 0; rw [e.2.1]
  | ⟨2, _⟩ => show win0_4.index (pt b i) 2 * 4 + 1 * h.val = h.val; rw [e.2.2.1]; omega
  | ⟨3, _⟩ => show win0_4.index (pt b i) 3 * 64 + 1 * d.val = d.val; rw [e.2.2.2]; omega

/-- and the new value. -/
theorem ins_vn (b : Fin 4) (i : Fin 8) (h : Fin 4) (d : Fin 64) : (ins m c (pt b i)).vn (ix4 0 0 h d) = (args m c).vn b h d := by
  show iblk m c 5 (pt b i) (ix4 0 0 h d) = _
  unfold iblk
  rw [View.read_apply]
  show V m c main_arg2 _ = _
  rw [V_main_arg2]
  refine congrArg (m ((c : Thread nD τ).loc main_arg2)) (funext fun a => Fin.ext ?_)
  have e := (index_facts (pt b i)).2.2.2.2.1
  match a with
  | ⟨0, _⟩ => show win0_5.index (pt b i) 0 * 1 + 1 * 0 = b.val; rw [e.1]; dsimp only; omega
  | ⟨1, _⟩ => show win0_5.index (pt b i) 1 * 1 + 1 * 0 = 0; rw [e.2.1]
  | ⟨2, _⟩ => show win0_5.index (pt b i) 2 * 4 + 1 * h.val = h.val; rw [e.2.2.1]; omega
  | ⟨3, _⟩ => show win0_5.index (pt b i) 3 * 64 + 1 * d.val = d.val; rw [e.2.2.2]; omega

/-! ## The scratch after each tile -/

/-- The scores of row `r` of sequence `b`, tile by tile, -/
def sN (b : Fin 4) (r : Fin 64) (i : ℕ) (j : Fin 4096) : EReal := if h : i < 8 then sc (ins m c (pt b ⟨i, h⟩)) r j else 0

/-- and the values accumulated in column `x`. -/
def vN (b : Fin 4) (x : Fin 256) (i : ℕ) (j : Fin 4096) : EReal := if h : i < 8 then vv (ins m c (pt b ⟨i, h⟩)) x j else 0

/-- After tile `i` of sequence `b` the scratch holds the running maximum, sum and numerator of the tiles so far. -/
theorem stAt_eq (b : Fin 4) : ∀ (i : ℕ) (hi : i < 8) (r : Fin 64),
    (∀ k : Fin 128, (stAt m c (pt b ⟨i, hi⟩).val (pt b ⟨i, hi⟩).isLt).m (ix2 r k) = Alg.mx (sN m c b r) (i + 1))
    ∧ (∀ k : Fin 128, (stAt m c (pt b ⟨i, hi⟩).val (pt b ⟨i, hi⟩).isLt).l (ix2 r k) = Alg.sm (sN m c b r) (i + 1))
    ∧ (∀ x : Fin 256, (stAt m c (pt b ⟨i, hi⟩).val (pt b ⟨i, hi⟩).isLt).a (ix2 r x) = Alg.ac (sN m c b r) (vN m c b x) (i + 1)) := by
  intro i
  induction i with
  | zero =>
    intro hi r
    rw [stAt_first m c (pt b ⟨0, hi⟩) (by dsimp only; omega)]
    have es : sN m c b r 0 = sc (ins m c (pt b ⟨0, hi⟩)) r := funext fun j => dif_pos hi
    have ev : ∀ x, vN m c b x 0 = vv (ins m c (pt b ⟨0, hi⟩)) x := fun x => funext fun j => dif_pos hi
    refine ⟨fun k => ?_, fun k => ?_, fun x => ?_⟩
    · rw [upd_m, (init_apply r 0 0).1]; simp only [Alg.mx, es]
    · rw [upd_l, (init_apply r 0 0).1, (init_apply r 0 0).2.1]; simp only [Alg.sm, Alg.mx, es]
    · rw [upd_a, (init_apply r 0 0).1, (init_apply r 0 x).2.2]; simp only [Alg.ac, Alg.mx, es, ev]
  | succ i ih =>
    intro hi r
    obtain ⟨h1, h2, h3⟩ := ih (by omega) r
    rw [stAt_next m c (pt b ⟨i + 1, hi⟩) (by dsimp only; omega)]
    have es : sN m c b r (i + 1) = sc (ins m c (pt b ⟨i + 1, hi⟩)) r := funext fun j => dif_pos hi
    have ev : ∀ x, vN m c b x (i + 1) = vv (ins m c (pt b ⟨i + 1, hi⟩)) x := fun x => funext fun j => dif_pos hi
    have ep : stAt m c ((pt b ⟨i + 1, hi⟩).val - 1) (Nat.lt_of_le_of_lt (Nat.sub_le _ _) (pt b ⟨i + 1, hi⟩).isLt)
        = stAt m c (pt b ⟨i, by omega⟩).val (pt b ⟨i, by omega⟩).isLt := by
      congr 1
    rw [ep]
    refine ⟨fun k => ?_, fun k => ?_, fun x => ?_⟩
    · rw [upd_m, h1]; simp only [Alg.mx, es]
    · rw [upd_l, h1, h2]; simp only [Alg.sm, Alg.mx, es]
    · rw [upd_a, h1, h3]; simp only [Alg.ac, Alg.mx, es, ev]

end Cert.KernelIdeal.Run
-- ==== Proof.KernelIdeal.Result.lean ====
/-
  The three results of the attention kernel at the ideal instance, as the plain function of `Spec`, where the scales are
  not negative.
-/
module

public import proofs.«01_k».proof.Proof.KernelIdeal.Value

@[expose] public section

noncomputable section

namespace Cert.KernelIdeal.Run

open Cert.KernelIdeal Cert.KernelIdeal.Gen
open Idealize.ShloMosaic Idealize.ShloMosaic.TcCoe Idealize.SL.Sem
open Idealize.ShloMosaic.Pipeline (Dat)
open scoped BigOperators
open Cert.Spec (quant c8 hd)

variable (m : (ℓ : Loc nD τ sig) → Buf (Elt Ideal) ℓ) (c : Dev nD)

/-- Whether a launch takes the exact branch (the same at every grid point). -/
abbrev exact : Prop := exBit (F := Ideal) (m ((c : Thread nD τ).loc main_arg4)) (m ((c : Thread nD τ).loc main_arg6)) = 1#1

section Pre
variable (hk : ∀ h, 0 ≤ (args m c).ks h) (hv : ∀ h, 0 ≤ (args m c).vs h)

include hk in
/-- A tile's scores are the plain scores of its positions. -/
theorem sN_eq (b : Fin 4) (r : Fin 64) : sN m c b r = Alg.cut (J := 4096) (fun t => Spec.score (args m c) b r t) := by
  funext i j
  by_cases hi : i < 8
  · rw [Alg.cut_of _ _ _ hi]
    unfold sN
    rw [dif_pos hi]
    unfold sc Spec.score
    simp only [ins_ks, ins_vs, ins_qbd, ins_kt]
    have e1 := Spec.sum_heads ((args m c).q b r)
      (fun x => (args m c).kc b ⟨i * 4096 + j.val, by omega⟩ ⟨x.val / 64, by omega⟩ ⟨x.val % 64, by omega⟩) (hd r)
    have e2 := Spec.sum_heads ((args m c).q b r)
      (fun x => (args m c).kc b ⟨i * 4096 + j.val, by omega⟩ ⟨x.val / 64, by omega⟩ ⟨x.val % 64, by omega⟩ * (args m c).ks ⟨x.val / 64, by omega⟩) (hd r)
    have f1 : ∀ d : Fin 64, (⟨((hd r).val * 64 + d.val) / 64, by omega⟩ : Fin 4) = hd r := fun d => Fin.ext (by dsimp only; omega)
    have f2 : ∀ d : Fin 64, (⟨((hd r).val * 64 + d.val) % 64, by omega⟩ : Fin 64) = d := fun d => Fin.ext (by dsimp only; omega)
    simp only [f1, f2] at e1 e2
    split
    · rename_i h
      refine Eq.trans ?_ (Spec.scale_out _ _ (hk (hd r)) (exBit_finite _ _ h (hd r)).1)
      exact congrArg (· * _) e1
    · exact congrArg (· * c8) e2
  · unfold sN Alg.cut
    rw [dif_neg hi, dif_neg hi]

/-- What the numerator is scaled by at a sequence's last point. -/
theorem wt_nonneg (hv : ∀ h, 0 ≤ (args m c).vs h) (t : Fin cfg0.N) (r : Fin 64) : 0 ≤ wt (ins m c t) r ∧ wt (ins m c t) r ≠ ⊤ := by
  unfold wt
  simp only [ins_ks, ins_vs]
  split
  · rename_i h
    exact ⟨hv (hd r), (exBit_finite _ _ h (hd r)).2⟩
  · exact ⟨zero_le_one, EReal.coe_ne_top 1⟩

/-- An accumulated value, so scaled, is the plain value. -/
theorem vN_wt (t : Fin cfg0.N) (b : Fin 4) (r d : Fin 64) (i : ℕ) (hi : i < 8) (j : Fin 4096) :
    vN m c b ⟨r.val / 16 * 64 + d.val, by omega⟩ i j * wt (ins m c t) r = Spec.val (args m c) b r d ⟨i * 4096 + j.val, by omega⟩ := by
  unfold vN
  rw [dif_pos hi]
  unfold vv wt Spec.val
  simp only [ins_ks, ins_vs, ins_vt]
  have f1 : (⟨(r.val / 16 * 64 + d.val) / 64, by omega⟩ : Fin 4) = hd r := Fin.ext (by dsimp only; omega)
  have f2 : (⟨(r.val / 16 * 64 + d.val) % 64, by omega⟩ : Fin 64) = d := Fin.ext (by dsimp only; omega)
  rw [f1, f2]
  split
  · rfl
  · exact mul_one _

/-- A sequence's last grid point. -/
abbrev last (b : Fin 4) : Fin cfg0.N := pt b ⟨7, by omega⟩

/-- A point at which a result is written back is the last of its sequence. -/
theorem eq_last (t : Fin cfg0.N) (h : t.val % 8 = 7) : ∃ b : Fin 4, t = last b := by
  have hN : t.val < 32 := t.isLt
  exact ⟨⟨t.val / 8, by omega⟩, Fin.ext (by show t.val = t.val / 8 * 8 + 7; omega)⟩

include hk hv in
/-- The block a sequence's last point writes is the plain result. -/
theorem outY_eq (b : Fin 4) (r d : Fin 64) :
    outY (ins m c (last b)) (stAt m c (last b).val (last b).isLt) (ix3 0 r d) = Spec.y (args m c) b r d := by
  obtain ⟨h1, h2, h3⟩ := stAt_eq m c b 7 (by omega) r
  rw [outY_apply]
  have hs : sn (ins m c (last b)) r = Spec.scoreNew (args m c) b r := by
    unfold sn Spec.scoreNew
    simp only [ins_ks, ins_q, ins_kn]
    rfl
  have hn : vn (ins m c (last b)) r d = Spec.valNew (args m c) b r d := by
    unfold vn Spec.valNew
    simp only [ins_vs, ins_vn]
    rfl
  have hm : Alg.mx (sN m c b r) 8 = Alg.top (fun t => Spec.score (args m c) b r t) := by
    rw [sN_eq m c hk]; exact Alg.mx_cut _
  rw [h1, h2, h3, hs, hn]
  obtain ⟨w0, w1⟩ := wt_nonneg m c hv (last b) r
  refine (Alg.finish _ _ 8 _ _ w0 w1).trans ?_
  unfold Spec.y Spec.peak
  rw [hm, Alg.sum_cut (J := 4096), Alg.sum_cut (J := 4096)]
  have g : ∀ i ∈ Finset.range 8, ∀ (f : EReal → EReal → EReal) (F : Fin 32768 → EReal)
      (_ : ∀ t, F t = f (Spec.score (args m c) b r t) (Spec.val (args m c) b r d t)) (j : Fin 4096),
      f (sN m c b r i j) (vN m c b ⟨r.val / 16 * 64 + d.val, by omega⟩ i j * wt (ins m c (last b)) r) = Alg.cut F i j := by
    intro i hi f F hF j
    have hi := Finset.mem_range.mp hi
    rw [vN_wt m c _ b r d i hi j, sN_eq m c hk, Alg.cut_of _ _ _ hi, Alg.cut_of _ _ _ hi, hF]
  refine congrArg₂ Ideal.div (congrArg (· + _) ?_) (congrArg (· + _) ?_)
  · exact Finset.sum_congr rfl fun i hi => Finset.sum_congr rfl fun j _ =>
      g i hi (fun s v => Ideal.exp (s - max (Alg.top fun t => Spec.score (args m c) b r t) (Spec.scoreNew (args m c) b r)) * v) _
        (fun _ => rfl) j
  · exact Finset.sum_congr rfl fun i hi => Finset.sum_congr rfl fun j _ =>
      g i hi (fun s _ => Ideal.exp (s - max (Alg.top fun t => Spec.score (args m c) b r t) (Spec.scoreNew (args m c) b r))) _
        (fun _ => rfl) j

include hk hv in
/-- So what a flushing point writes back to the first result is its block of the plain result, -/
theorem flushed_8 (t : Fin cfg0.N) (hf : (cfg0.win 8).flush t = true) :
    (dats m 0 c).flushed 8 t = ((cfg0.win 8).blk t).view.read (Elt Ideal) (Spec.resY (args m c)) := by
  obtain ⟨b, rfl⟩ := eq_last t ((flush0_8 t).mp hf)
  show (cfg0.win 8).cut (grid0.coords (last b)) ((dats m 0 c).after 8 (last b)) = _
  rw [after0_8]
  funext j
  rw [View.read_apply]
  have hj : (j 0 : Nat) < 1 := (j 0).isLt
  have h1 : (j 1 : Nat) < 64 := (j 1).isLt
  have h2 : (j 2 : Nat) < 64 := (j 2).isLt
  have e := (index_facts (last b)).2.2.2.2.2.2.2.1
  refine Eq.trans (b := outY (ins m c (last b)) (stAt m c (last b).val (last b).isLt) (ix3 0 ⟨(j 1 : Nat), h1⟩ ⟨(j 2 : Nat), h2⟩)) ?_ ?_
  · refine congrArg (outY (ins m c (last b)) (stAt m c (last b).val (last b).isLt)) (funext fun a => Fin.ext ?_)
    match a with
    | ⟨0, _⟩ => show (j 0 : Nat) = 0; omega
    | ⟨1, _⟩ => rfl
    | ⟨2, _⟩ => rfl
  · rw [outY_eq m c hk hv, ← Spec.resY_ix3]
    generalize Spec.resY (args m c) = R
    refine congrArg R (funext fun a => Fin.ext ?_)
    match a with
    | ⟨0, _⟩ => show b.val = win0_8.index (last b) 0 * 1 + 1 * (j 0 : Nat); rw [e.1]; dsimp only; omega
    | ⟨1, _⟩ => show (j 1 : Nat) = win0_8.index (last b) 1 * 64 + 1 * (j 1 : Nat); rw [e.2.1]; omega
    | ⟨2, _⟩ => show (j 2 : Nat) = win0_8.index (last b) 2 * 64 + 1 * (j 2 : Nat); rw [e.2.2]; omega

include hk hv in
/-- and the first result array ends as the plain result. -/
theorem final_8 : (dats m 0 c).arrAt 8 cfg0.N = Spec.resY (args m c) :=
  (dats m 0 c).arrAt_eq_of_cover 8 (Spec.resY (args m c)) (flushed_8 m c hk hv) fun i => by
    have h0 : (i 0 : Nat) < 4 := (i 0).isLt
    have h1 : (i 1 : Nat) < 64 := (i 1).isLt
    have h2 : (i 2 : Nat) < 64 := (i 2).isLt
    have e := (index_facts (last ⟨(i 0 : Nat), h0⟩)).2.2.2.2.2.2.2.1
    have x0 : ∀ t : Fin grid0.N, win0_8.xsize (grid0.coords t) 0 = 1 ∧ win0_8.xsize (grid0.coords t) 1 = 64 ∧ win0_8.xsize (grid0.coords t) 2 = 64 := by
      decide +kernel
    have x := x0 (last ⟨(i 0 : Nat), h0⟩)
    refine ⟨last ⟨(i 0 : Nat), h0⟩, (flush0_8 _).mpr (by dsimp only; omega), ?_⟩
    show i ∈ ((View.whole main_v17_0).slice (win0_8.rect (last ⟨(i 0 : Nat), h0⟩))).set
    rw [View.set_slice_whole, Rect.mem_set_unit]
    intro a
    match a with
    | ⟨0, _⟩ => show win0_8.index (last ⟨(i 0 : Nat), h0⟩) 0 * 1 ≤ (i 0 : Nat) ∧ (i 0 : Nat) < win0_8.index (last ⟨(i 0 : Nat), h0⟩) 0 * 1 + win0_8.xsize (grid0.coords (last ⟨(i 0 : Nat), h0⟩)) 0
                rw [e.1, x.1]; dsimp only; omega
    | ⟨1, _⟩ => show win0_8.index (last ⟨(i 0 : Nat), h0⟩) 1 * 64 ≤ (i 1 : Nat) ∧ (i 1 : Nat) < win0_8.index (last ⟨(i 0 : Nat), h0⟩) 1 * 64 + win0_8.xsize (grid0.coords (last ⟨(i 0 : Nat), h0⟩)) 1
                rw [e.2.1, x.2.1]; omega
    | ⟨2, _⟩ => show win0_8.index (last ⟨(i 0 : Nat), h0⟩) 2 * 64 ≤ (i 2 : Nat) ∧ (i 2 : Nat) < win0_8.index (last ⟨(i 0 : Nat), h0⟩) 2 * 64 + win0_8.xsize (grid0.coords (last ⟨(i 0 : Nat), h0⟩)) 2
                rw [e.2.2, x.2.2]; omega

end Pre

/-- What a flushing point writes back to the quantised new key is its block of the plain rows, -/
theorem flushed_9 (t : Fin cfg0.N) (hf : (cfg0.win 9).flush t = true) :
    (dats m 0 c).flushed 9 t = ((cfg0.win 9).blk t).view.read (Elt Ideal) (Spec.resK (args m c)) := by
  obtain ⟨b, rfl⟩ := eq_last t ((flush0_9 t).mp hf)
  show (cfg0.win 9).cut (grid0.coords (last b)) ((dats m 0 c).after 9 (last b)) = _
  rw [after0_9]
  funext j
  rw [View.read_apply]
  have hj : (j 0 : Nat) < 1 := (j 0).isLt
  have h1 : (j 1 : Nat) < 1 := (j 1).isLt
  have h2 : (j 2 : Nat) < 4 := (j 2).isLt
  have h3 : (j 3 : Nat) < 64 := (j 3).isLt
  have e := (index_facts (last b)).2.2.2.2.2.2.2.2.1
  refine Eq.trans (b := outK (ins m c (last b)) (ix4 0 0 ⟨(j 2 : Nat), h2⟩ ⟨(j 3 : Nat), h3⟩)) ?_ ?_
  · refine congrArg (outK (ins m c (last b))) (funext fun a => Fin.ext ?_)
    match a with
    | ⟨0, _⟩ => show (j 0 : Nat) = 0; omega
    | ⟨1, _⟩ => show (j 1 : Nat) = 0; omega
    | ⟨2, _⟩ => rfl
    | ⟨3, _⟩ => rfl
  · rw [outK_apply, ins_ks, ins_kn]
    refine (show Spec.resK (args m c) (ix4 b 0 ⟨(j 2 : Nat), h2⟩ ⟨(j 3 : Nat), h3⟩) = _ from congrArg (Spec.resK (args m c)) (funext fun a => Fin.ext ?_))
    match a with
    | ⟨0, _⟩ => show b.val = win0_9.index (last b) 0 * 1 + 1 * (j 0 : Nat); rw [e.1]; dsimp only; omega
    | ⟨1, _⟩ => show 0 = win0_9.index (last b) 1 * 1 + 1 * (j 1 : Nat); rw [e.2.1]; omega
    | ⟨2, _⟩ => show (j 2 : Nat) = win0_9.index (last b) 2 * 4 + 1 * (j 2 : Nat); rw [e.2.2.1]; omega
    | ⟨3, _⟩ => show (j 3 : Nat) = win0_9.index (last b) 3 * 64 + 1 * (j 3 : Nat); rw [e.2.2.2]; omega

/-- and the quantised new key ends as the plain rows. -/
theorem final_9 : (dats m 0 c).arrAt 9 cfg0.N = Spec.resK (args m c) :=
  (dats m 0 c).arrAt_eq_of_cover 9 (Spec.resK (args m c)) (flushed_9 m c) fun i => by
    have h0 : (i 0 : Nat) < 4 := (i 0).isLt
    have h1 : (i 1 : Nat) < 1 := (i 1).isLt
    have h2 : (i 2 : Nat) < 4 := (i 2).isLt
    have h3 : (i 3 : Nat) < 64 := (i 3).isLt
    have e := (index_facts (last ⟨(i 0 : Nat), h0⟩)).2.2.2.2.2.2.2.2.1
    have x0 : ∀ t : Fin grid0.N, win0_9.xsize (grid0.coords t) 0 = 1 ∧ win0_9.xsize (grid0.coords t) 1 = 1
        ∧ win0_9.xsize (grid0.coords t) 2 = 4 ∧ win0_9.xsize (grid0.coords t) 3 = 64 := by
      decide +kernel
    have x := x0 (last ⟨(i 0 : Nat), h0⟩)
    refine ⟨last ⟨(i 0 : Nat), h0⟩, (flush0_9 _).mpr (by dsimp only; omega), ?_⟩
    show i ∈ ((View.whole main_v17_1).slice (win0_9.rect (last ⟨(i 0 : Nat), h0⟩))).set
    rw [View.set_slice_whole, Rect.mem_set_unit]
    intro a
    match a with
    | ⟨0, _⟩ => show win0_9.index (last ⟨(i 0 : Nat), h0⟩) 0 * 1 ≤ (i 0 : Nat) ∧ (i 0 : Nat) < win0_9.index (last ⟨(i 0 : Nat), h0⟩) 0 * 1 + win0_9.xsize (grid0.coords (last ⟨(i 0 : Nat), h0⟩)) 0
                rw [e.1, x.1]; dsimp only; omega
    | ⟨1, _⟩ => show win0_9.index (last ⟨(i 0 : Nat), h0⟩) 1 * 1 ≤ (i 1 : Nat) ∧ (i 1 : Nat) < win0_9.index (last ⟨(i 0 : Nat), h0⟩) 1 * 1 + win0_9.xsize (grid0.coords (last ⟨(i 0 : Nat), h0⟩)) 1
                rw [e.2.1, x.2.1]; omega
    | ⟨2, _⟩ => show win0_9.index (last ⟨(i 0 : Nat), h0⟩) 2 * 4 ≤ (i 2 : Nat) ∧ (i 2 : Nat) < win0_9.index (last ⟨(i 0 : Nat), h0⟩) 2 * 4 + win0_9.xsize (grid0.coords (last ⟨(i 0 : Nat), h0⟩)) 2
                rw [e.2.2.1, x.2.2.1]; omega
    | ⟨3, _⟩ => show win0_9.index (last ⟨(i 0 : Nat), h0⟩) 3 * 64 ≤ (i 3 : Nat) ∧ (i 3 : Nat) < win0_9.index (last ⟨(i 0 : Nat), h0⟩) 3 * 64 + win0_9.xsize (grid0.coords (last ⟨(i 0 : Nat), h0⟩)) 3
                rw [e.2.2.2, x.2.2.2]; omega

/-- What a flushing point writes back to the quantised new value is its block of the plain rows, -/
theorem flushed_10 (t : Fin cfg0.N) (hf : (cfg0.win 10).flush t = true) :
    (dats m 0 c).flushed 10 t = ((cfg0.win 10).blk t).view.read (Elt Ideal) (Spec.resV (args m c)) := by
  obtain ⟨b, rfl⟩ := eq_last t ((flush0_10 t).mp hf)
  show (cfg0.win 10).cut (grid0.coords (last b)) ((dats m 0 c).after 10 (last b)) = _
  rw [after0_10]
  funext j
  rw [View.read_apply]
  have hj : (j 0 : Nat) < 1 := (j 0).isLt
  have h1 : (j 1 : Nat) < 1 := (j 1).isLt
  have h2 : (j 2 : Nat) < 4 := (j 2).isLt
  have h3 : (j 3 : Nat) < 64 := (j 3).isLt
  have e := (index_facts (last b)).2.2.2.2.2.2.2.2.2
  refine Eq.trans (b := outV (ins m c (last b)) (ix4 0 0 ⟨(j 2 : Nat), h2⟩ ⟨(j 3 : Nat), h3⟩)) ?_ ?_
  · refine congrArg (outV (ins m c (last b))) (funext fun a => Fin.ext ?_)
    match a with
    | ⟨0, _⟩ => show (j 0 : Nat) = 0; omega
    | ⟨1, _⟩ => show (j 1 : Nat) = 0; omega
    | ⟨2, _⟩ => rfl
    | ⟨3, _⟩ => rfl
  · rw [outV_apply, ins_vs, ins_vn]
    refine (show Spec.resV (args m c) (ix4 b 0 ⟨(j 2 : Nat), h2⟩ ⟨(j 3 : Nat), h3⟩) = _ from congrArg (Spec.resV (args m c)) (funext fun a => Fin.ext ?_))
    match a with
    | ⟨0, _⟩ => show b.val = win0_10.index (last b) 0 * 1 + 1 * (j 0 : Nat); rw [e.1]; dsimp only; omega
    | ⟨1, _⟩ => show 0 = win0_10.index (last b) 1 * 1 + 1 * (j 1 : Nat); rw [e.2.1]; omega
    | ⟨2, _⟩ => show (j 2 : Nat) = win0_10.index (last b) 2 * 4 + 1 * (j 2 : Nat); rw [e.2.2.1]; omega
    | ⟨3, _⟩ => show (j 3 : Nat) = win0_10.index (last b) 3 * 64 + 1 * (j 3 : Nat); rw [e.2.2.2]; omega

/-- and the quantised new value ends as the plain rows. -/
theorem final_10 : (dats m 0 c).arrAt 10 cfg0.N = Spec.resV (args m c) :=
  (dats m 0 c).arrAt_eq_of_cover 10 (Spec.resV (args m c)) (flushed_10 m c) fun i => by
    have h0 : (i 0 : Nat) < 4 := (i 0).isLt
    have h1 : (i 1 : Nat) < 1 := (i 1).isLt
    have h2 : (i 2 : Nat) < 4 := (i 2).isLt
    have h3 : (i 3 : Nat) < 64 := (i 3).isLt
    have e := (index_facts (last ⟨(i 0 : Nat), h0⟩)).2.2.2.2.2.2.2.2.2
    have x0 : ∀ t : Fin grid0.N, win0_10.xsize (grid0.coords t) 0 = 1 ∧ win0_10.xsize (grid0.coords t) 1 = 1
        ∧ win0_10.xsize (grid0.coords t) 2 = 4 ∧ win0_10.xsize (grid0.coords t) 3 = 64 := by
      decide +kernel
    have x := x0 (last ⟨(i 0 : Nat), h0⟩)
    refine ⟨last ⟨(i 0 : Nat), h0⟩, (flush0_10 _).mpr (by dsimp only; omega), ?_⟩
    show i ∈ ((View.whole main_v17_2).slice (win0_10.rect (last ⟨(i 0 : Nat), h0⟩))).set
    rw [View.set_slice_whole, Rect.mem_set_unit]
    intro a
    match a with
    | ⟨0, _⟩ => show win0_10.index (last ⟨(i 0 : Nat), h0⟩) 0 * 1 ≤ (i 0 : Nat) ∧ (i 0 : Nat) < win0_10.index (last ⟨(i 0 : Nat), h0⟩) 0 * 1 + win0_10.xsize (grid0.coords (last ⟨(i 0 : Nat), h0⟩)) 0
                rw [e.1, x.1]; dsimp only; omega
    | ⟨1, _⟩ => show win0_10.index (last ⟨(i 0 : Nat), h0⟩) 1 * 1 ≤ (i 1 : Nat) ∧ (i 1 : Nat) < win0_10.index (last ⟨(i 0 : Nat), h0⟩) 1 * 1 + win0_10.xsize (grid0.coords (last ⟨(i 0 : Nat), h0⟩)) 1
                rw [e.2.1, x.2.1]; omega
    | ⟨2, _⟩ => show win0_10.index (last ⟨(i 0 : Nat), h0⟩) 2 * 4 ≤ (i 2 : Nat) ∧ (i 2 : Nat) < win0_10.index (last ⟨(i 0 : Nat), h0⟩) 2 * 4 + win0_10.xsize (grid0.coords (last ⟨(i 0 : Nat), h0⟩)) 2
                rw [e.2.2.1, x.2.2.1]; omega
    | ⟨3, _⟩ => show win0_10.index (last ⟨(i 0 : Nat), h0⟩) 3 * 64 ≤ (i 3 : Nat) ∧ (i 3 : Nat) < win0_10.index (last ⟨(i 0 : Nat), h0⟩) 3 * 64 + win0_10.xsize (grid0.coords (last ⟨(i 0 : Nat), h0⟩)) 3
                rw [e.2.2.2, x.2.2.2]; omega

/-- The run at the ideal instance, where the scales are not negative: each device's three results are the plain
    functions of its arguments. -/
theorem run (ρ : Dev nD → PrngReg) (hk : ∀ c h, 0 ≤ (args m c).ks h) (hv : ∀ c h, 0 ≤ (args m c).vs h) :
    θ_run defs (onTc (τ := τ) (main (F := Ideal))) ⟨m, fun _ => 0, ρ⟩ fun r =>
      (∀ c : Dev nD, r.2.mem ((c : Thread nD τ).loc main_v17_0) = Spec.resY (args m c)
        ∧ r.2.mem ((c : Thread nD τ).loc main_v17_1) = Spec.resK (args m c)
        ∧ r.2.mem ((c : Thread nD τ).loc main_v17_2) = Spec.resV (args m c)) :=
  (θ_run defs _ _).mono (fun _ h c => ⟨((h c).1 8).trans (final_8 m c (hk c) (hv c)), ((h c).1 9).trans (final_9 m c),
    ((h c).1 10).trans (final_10 m c)⟩) (run_main m ρ)

end Cert.KernelIdeal.Run
-- ==== Proof.ReferenceIdeal.Pay.lean ====
/-
  What the reference's body stores, read index by index at the ideal instance.
-/
module

public import proofs.«01_k».proof.Proof.Gen.ReferenceIdeal.Frame
public import proofs.«01_k».proof.Proof.Spec
public import Idealize.ShloMosaic.Lib.Pointwise
public import Idealize.ShloMosaic.Lib.Pipeline.Value

@[expose] public section

noncomputable section

namespace Cert.ReferenceIdeal.Value

open Cert.ReferenceIdeal Cert.ReferenceIdeal.Gen
open Idealize.ShloMosaic Idealize.ShloMosaic.TcCoe Idealize.SL.Sem
open scoped BigOperators
open Cert.Spec (quant c8)

variable (x0 : Vec Ideal S16x16x64 .bf16) (x1 x2 : Vec Ideal S16x1x64 .bf16) (x3 x5 : Vec Ideal S16x32768x64 .fp8e4m3)
  (x4 x6 : Vec Ideal S16x1x1 .f32)

/-- The quantised new key of a (sequence, head) pair, -/
theorem pay3_apply (n : Fin 16) (d : Fin 64) : k0_pay3 (F := Ideal) x4 x1 (ix3 n 0 d) = quant (x1 (ix3 n 0 d)) (x4 (ix3 n 0 0)) := by
  pointwise [k0_pay3, k0_pay1, quant]

/-- and the quantised new value. -/
theorem pay4_apply (n : Fin 16) (d : Fin 64) : k0_pay4 (F := Ideal) x6 x2 (ix3 n 0 d) = quant (x2 (ix3 n 0 d)) (x6 (ix3 n 0 0)) := by
  pointwise [k0_pay4, k0_pay2, quant]

/-- The stored codes of the new key, at their place in the result, -/
theorem pay5_apply (b h : Fin 4) (d : Fin 64) : k0_pay5 (F := Ideal) x4 x1 (ix4 b 0 h d)
    = quant (x1 (ix3 ⟨b.val * 4 + h.val, by omega⟩ 0 d)) (x4 (ix3 ⟨b.val * 4 + h.val, by omega⟩ 0 0)) := by
  rw [← pay3_apply]
  pointwise [k0_pay5]

/-- and those of the new value. -/
theorem pay6_apply (b h : Fin 4) (d : Fin 64) : k0_pay6 (F := Ideal) x6 x2 (ix4 b 0 h d)
    = quant (x2 (ix3 ⟨b.val * 4 + h.val, by omega⟩ 0 d)) (x6 (ix3 ⟨b.val * 4 + h.val, by omega⟩ 0 0)) := by
  rw [← pay4_apply]
  pointwise [k0_pay6]

/-! ## The attention result, stage by stage -/

/-- A cache dequantised: its codes times the scale of their pair. -/
def deq (v : FVec Ideal S16x1x1 .f32) (u : FVec Ideal S16x32768x64 .bf16) : FVec Ideal S16x32768x64 .bf16 :=
  mulf u (broadcastTo S16x32768x64 (truncf .bf16 v bitsLt_bf16_f32) broadcasts_S16x1x1_S16x32768x64)

/-- A dequantised cache at an index. -/
theorem deq_apply (v : FVec Ideal S16x1x1 .f32) (u : FVec Ideal S16x32768x64 .bf16) (n : Fin 16) (t : Fin 32768) (d : Fin 64) :
    deq v u (ix3 n t d) = u (ix3 n t d) * v (ix3 n 0 0) := by
  pointwise [deq]

/-- A new row dequantised. -/
def deqN (v : FVec Ideal S16x1x1 .f32) (u : FVec Ideal S16x1x64 .fp8e4m3) : FVec Ideal S16x1x64 .bf16 :=
  mulf (extf .bf16 u bitsLt_fp8e4m3_bf16) (broadcastTo S16x1x64 (truncf .bf16 v bitsLt_bf16_f32) broadcasts_S16x1x1_S16x1x64)

/-- A dequantised new row at an index. -/
theorem deqN_apply (v : FVec Ideal S16x1x1 .f32) (u : FVec Ideal S16x1x64 .fp8e4m3) (n : Fin 16) (d : Fin 64) :
    deqN v u (ix3 n 0 d) = u (ix3 n 0 d) * v (ix3 n 0 0) := by
  pointwise [deqN]

/-- The scores against the cached keys, -/
def sP (x : FVec Ideal S16x16x64 .bf16) (k : FVec Ideal S16x32768x64 .bf16) : FVec Ideal S16x16x32768 .f32 :=
  mulf (matmul dot_S16x16x64_S16x32768x64_S16x16x32768_2_2_1_1_0_0 none (shapeCast S16x16x64 x shapeCasts_S16x16x64_S16x16x64) k
    (constant S16x16x32768 .f32 0x00000000#32)) (broadcast S16x16x32768 (Scalar.ofBits .f32 0x3E000000#32))

/-- The scores of the cached positions at an index. -/
theorem sP_apply (x : FVec Ideal S16x16x64 .bf16) (k : FVec Ideal S16x32768x64 .bf16) (n g : Fin 16) (t : Fin 32768) :
    sP x k (ix3 n g t) = (∑ d : Fin 64, x (ix3 n g d) * k (ix3 n t d)) * c8 := by
  pointwise [sP]

/-- and against the new key. -/
def sQ (x : FVec Ideal S16x16x64 .bf16) (k : FVec Ideal S16x1x64 .bf16) : FVec Ideal S16x16x1 .f32 :=
  mulf (matmul dot_S16x16x64_S16x1x64_S16x16x1_2_2_1_1_0_0 none (shapeCast S16x16x64 x shapeCasts_S16x16x64_S16x16x64) k
    (constant S16x16x1 .f32 0x00000000#32)) (broadcast S16x16x1 (Scalar.ofBits .f32 0x3E000000#32))

/-- The score of the new position at an index. -/
theorem sQ_apply (x : FVec Ideal S16x16x64 .bf16) (k : FVec Ideal S16x1x64 .bf16) (n g : Fin 16) :
    sQ x k (ix3 n g 0) = (∑ d : Fin 64, x (ix3 n g d) * k (ix3 n 0 d)) * c8 := by
  pointwise [sQ]

/-- The maximum along the last axis of a three-axis array is the fold of `max` over it. -/
theorem max_last {n0 n1 n2 : ℕ} (s : FVec Ideal ⟨3, ![n0, n1, n2]⟩ .f32) (h : Shape.Reduces ⟨3, ![n0, n1, n2]⟩ [2] ⟨2, ![n0, n1]⟩)
    (hφ : FKind.Formats .f32) (hacc : (0xFF800000#32 : BitVec FTy.f32.bits) = FKind.maximumf.neutral .f32 hφ) (n : Fin n0) (g : Fin n1) :
    multiReduction .maximumf [2] ⟨2, ![n0, n1]⟩ s 0xFF800000#32 h hφ hacc (ix2 n g)
      = Finset.univ.fold max (Ideal.ofBits .f32 0xFF800000#32) fun t : Fin n2 => s (ix3 n g t) := by
  rw [multiReduction_maximumf_eq_fold]
  exact h.fold_fiber_r3_a2 (ix2 n g) max _ s

/-- The larger of two columns at an index. -/
theorem max_at (x y : FVec Ideal S16x16x1 .f32) (n g : Fin 16) : maximumf x y (ix3 n g 0) = max (x (ix3 n g 0)) (y (ix3 n g 0)) := by
  pointwise

/-- A matrix with a column axis added, at an index. -/
theorem col_at (x : FVec Ideal S16x16 .f32) (n g : Fin 16) : shapeCast S16x16x1 x shapeCasts_S16x16_S16x16x1 (ix3 n g 0) = x (ix2 n g) := by
  pointwise

/-- The largest cached score of each row, -/
def top (s : FVec Ideal S16x16x32768 .f32) : FVec Ideal S16x16 .f32 :=
  multiReduction .maximumf [2] S16x16 s 0xFF800000#32 reduces_S16x16x32768_S16x16 (.inl rfl) rfl

/-- The largest cached score at an index. -/
theorem top_apply (s : FVec Ideal S16x16x32768 .f32) (n g : Fin 16) :
    top s (ix2 n g) = Finset.univ.fold max (Ideal.ofBits .f32 0xFF800000#32) fun t : Fin 32768 => s (ix3 n g t) :=
  max_last s _ _ _ n g

/-- and the largest of those and the new score. -/
def pk (s : FVec Ideal S16x16x32768 .f32) (q : FVec Ideal S16x16x1 .f32) : FVec Ideal S16x16x1 .f32 :=
  maximumf (shapeCast S16x16x1 (top s) shapeCasts_S16x16_S16x16x1) q

/-- The largest score of all at an index. -/
theorem pk_apply (s : FVec Ideal S16x16x32768 .f32) (q : FVec Ideal S16x16x1 .f32) (n g : Fin 16) :
    pk s q (ix3 n g 0) = max (Finset.univ.fold max (Ideal.ofBits .f32 0xFF800000#32) fun t : Fin 32768 => s (ix3 n g t)) (q (ix3 n g 0)) := by
  unfold pk
  rw [max_at, col_at, top_apply]

/-- The weights of the cached positions. -/
def wP (s : FVec Ideal S16x16x32768 .f32) (p : FVec Ideal S16x16x1 .f32) : FVec Ideal S16x16x32768 .f32 :=
  exp (subf s (broadcastTo S16x16x32768 p broadcasts_S16x16x1_S16x16x32768))

/-- The weight of a cached position. -/
theorem wP_apply (s : FVec Ideal S16x16x32768 .f32) (p : FVec Ideal S16x16x1 .f32) (n g : Fin 16) (t : Fin 32768) :
    wP s p (ix3 n g t) = Ideal.exp (s (ix3 n g t) - p (ix3 n g 0)) := by
  pointwise [wP]

/-- Their sum with the new position's weight. -/
def den (w : FVec Ideal S16x16x32768 .f32) (u : FVec Ideal S16x16x1 .f32) : FVec Ideal S16x16x1 .f32 :=
  addf (shapeCast S16x16x1 (multiReduction .add [2] S16x16 w 0x00000000#32 reduces_S16x16x32768_S16x16 (.inl rfl) rfl) shapeCasts_S16x16_S16x16x1) u

/-- The sum of all weights at an index. -/
theorem den_apply (w : FVec Ideal S16x16x32768 .f32) (u : FVec Ideal S16x16x1 .f32) (n g : Fin 16) :
    den w u (ix3 n g 0) = (∑ t : Fin 32768, w (ix3 n g t)) + u (ix3 n g 0) := by
  pointwise [den]

/-- The weighted values. -/
def num (w : FVec Ideal S16x16x32768 .f32) (v : FVec Ideal S16x32768x64 .bf16) (u : FVec Ideal S16x16x1 .f32) (z : FVec Ideal S16x1x64 .bf16) :
    FVec Ideal S16x16x64 .f32 :=
  addf (matmul dot_S16x16x32768_S16x32768x64_S16x16x64_2_1_1_2_0_0 none w (extf .f32 v bitsLt_bf16_f32) (constant S16x16x64 .f32 0x00000000#32))
    (matmul dot_S16x16x1_S16x1x64_S16x16x64_2_1_1_2_0_0 none u (extf .f32 z bitsLt_bf16_f32) (constant S16x16x64 .f32 0x00000000#32))

/-- The weighted values at an index. -/
theorem num_apply (w : FVec Ideal S16x16x32768 .f32) (v : FVec Ideal S16x32768x64 .bf16) (u : FVec Ideal S16x16x1 .f32) (z : FVec Ideal S16x1x64 .bf16)
    (n g : Fin 16) (d : Fin 64) :
    num w v u z (ix3 n g d) = (∑ t : Fin 32768, w (ix3 n g t) * v (ix3 n t d)) + u (ix3 n g 0) * z (ix3 n 0 d) := by
  pointwise [num]
  refine congrArg (_ + ·) ?_
  exact Fin.sum_univ_one _

/-- The quotient, as the result's rows. -/
def quo (a : FVec Ideal S16x16x64 .f32) (l : FVec Ideal S16x16x1 .f32) : FVec Ideal S4x64x64 .bf16 :=
  shapeCast S4x64x64 (truncf .bf16 (divf a (broadcastTo S16x16x64 l broadcasts_S16x16x1_S16x16x64)) bitsLt_bf16_f32) shapeCasts_S16x16x64_S4x64x64

/-- The quotient at an index of the result. -/
theorem quo_apply (a : FVec Ideal S16x16x64 .f32) (l : FVec Ideal S16x16x1 .f32) (b : Fin 4) (r d : Fin 64) :
    quo a l (ix3 b r d) = Ideal.div (a (ix3 ⟨b.val * 4 + r.val / 16, by omega⟩ ⟨r.val % 16, by omega⟩ d))
      (l (ix3 ⟨b.val * 4 + r.val / 16, by omega⟩ ⟨r.val % 16, by omega⟩ 0)) := by
  pointwise [quo]

/-- The stored payload is these stages. -/
theorem pay8_eq (v1 v3 : FVec Ideal S16x1x1 .f32) (v13 v23 : FVec Ideal S16x1x64 .fp8e4m3) (v30 : FVec Ideal S16x32768x64 .bf16) :
    k0_pay8 (F := Ideal) v1 v3 v13 v23 v30 x5 x0 =
      (have s := sP x0 (deq v1 v30)
       have q := sQ x0 (deqN v1 v13)
       have p := pk s q
       have w := wP s p
       have u := exp (subf q p)
       quo (num w (deq v3 (k0_pay7 (F := Ideal) x5)) u (deqN v3 v23)) (den w u)) := rfl

end Cert.ReferenceIdeal.Value
-- ==== Proof.ReferenceIdeal.Host.lean ====
/-
  What the reference's host code hands its body, index by index: the arguments with one leading row per (sequence, head)
  pair.
-/
module

public import proofs.«01_k».proof.Proof.Gen.ReferenceIdeal.Frame
public import Idealize.ShloMosaic.Lib.Pointwise

@[expose] public section

noncomputable section

namespace Cert.ReferenceIdeal.Value

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

/-- Reshaping the query to (pair, row of the pair, lane). -/
theorem split_query (X : FVec Ideal S4x1x4096 .bf16) (b : Fin 4) (r d : Fin 64) :
    shapeCast S16x16x64 X shapeCasts_S4x1x4096_S16x16x64 (ix3 ⟨b.val * 4 + r.val / 16, by omega⟩ ⟨r.val % 16, by omega⟩ d)
      = X (ix3 b 0 ⟨r.val * 64 + d.val, by omega⟩) := by
  pointwise
  refine congrArg X (congrArg (ix3 b 0) (Fin.ext ?_))
  dsimp only
  omega

/-- The query. -/
theorem V_v0_apply (b : Fin 4) (r d : Fin 64) :
    (V m c main_v0 : S16x16x64.Idx → EReal) (ix3 ⟨b.val * 4 + r.val / 16, by omega⟩ ⟨r.val % 16, by omega⟩ d)
      = (m ((c : Thread nD τ).loc main_arg0) : S4x1x4096.Idx → EReal) (ix3 b 0 ⟨r.val * 64 + d.val, by omega⟩) := by
  have e : (V m c main_v0 : S16x16x64.Idx → EReal) = shapeCast S16x16x64 (m ((c : Thread nD τ).loc main_arg0)) shapeCasts_S4x1x4096_S16x16x64 := by
    show StableHlo.after _ _ _ = _
    after_results
    rfl
  rw [e]
  exact split_query _ b r d

/-- The rows of a new key or value by pair. -/
theorem pair_new (X : FVec Ideal S4x1x4x64 .bf16) (b h : Fin 4) (d : Fin 64) :
    shapeCast S16x1x64 (transpose S4x4x1x64 [0, 2, 1, 3] X transposes_S4x1x4x64_S4x4x1x64_0_2_1_3) shapeCasts_S4x4x1x64_S16x1x64
      (ix3 ⟨b.val * 4 + h.val, by omega⟩ 0 d) = X (ix4 b 0 h d) := by
  pointwise

/-- The rows of a cache by pair. -/
theorem pair_cache (X : FVec Ideal S4x32768x4x64 .fp8e4m3) (b h : Fin 4) (t : Fin 32768) (d : Fin 64) :
    shapeCast S16x32768x64 (transpose S4x4x32768x64 [0, 2, 1, 3] X transposes_S4x32768x4x64_S4x4x32768x64_0_2_1_3) shapeCasts_S4x4x32768x64_S16x32768x64
      (ix3 ⟨b.val * 4 + h.val, by omega⟩ t d) = X (ix4 b t h d) := by
  pointwise

/-- The scale of a pair. -/
theorem pair_scale (X : FVec Ideal S4 .f32) (b h : Fin 4) :
    shapeCast S16x1x1 (shapeCast S16 (broadcastInDim S4x4 ![0, 1] bcast_S1x4_S4x4_0_1 (shapeCast S1x4 X shapeCasts_S4_S1x4)) shapeCasts_S4x4_S16) shapeCasts_S16_S16x1x1
      (ix3 ⟨b.val * 4 + h.val, by omega⟩ 0 0) = X (ix1 h) := by
  pointwise

/-- The new key, -/
theorem V_v2_apply (b h : Fin 4) (d : Fin 64) :
    (V m c main_v2 : S16x1x64.Idx → EReal) (ix3 ⟨b.val * 4 + h.val, by omega⟩ 0 d) = (m ((c : Thread nD τ).loc main_arg1) : S4x1x4x64.Idx → EReal) (ix4 b 0 h d) := by
  have e : (V m c main_v2 : S16x1x64.Idx → EReal) = shapeCast S16x1x64 (transpose S4x4x1x64 [0, 2, 1, 3] (m ((c : Thread nD τ).loc main_arg1)) transposes_S4x1x4x64_S4x4x1x64_0_2_1_3) shapeCasts_S4x4x1x64_S16x1x64 := by
    show StableHlo.after _ _ _ = _
    after_results
    rfl
  rw [e]
  exact pair_new _ b h d

/-- the new value, -/
theorem V_v4_apply (b h : Fin 4) (d : Fin 64) :
    (V m c main_v4 : S16x1x64.Idx → EReal) (ix3 ⟨b.val * 4 + h.val, by omega⟩ 0 d) = (m ((c : Thread nD τ).loc main_arg2) : S4x1x4x64.Idx → EReal) (ix4 b 0 h d) := by
  have e : (V m c main_v4 : S16x1x64.Idx → EReal) = shapeCast S16x1x64 (transpose S4x4x1x64 [0, 2, 1, 3] (m ((c : Thread nD τ).loc main_arg2)) transposes_S4x1x4x64_S4x4x1x64_0_2_1_3) shapeCasts_S4x4x1x64_S16x1x64 := by
    show StableHlo.after _ _ _ = _
    after_results
    rfl
  rw [e]
  exact pair_new _ b h d

/-- the key codes, -/
theorem V_v6_apply (b h : Fin 4) (t : Fin 32768) (d : Fin 64) :
    (V m c main_v6 : S16x32768x64.Idx → EReal) (ix3 ⟨b.val * 4 + h.val, by omega⟩ t d) = (m ((c : Thread nD τ).loc main_arg3) : S4x32768x4x64.Idx → EReal) (ix4 b t h d) := by
  have e : (V m c main_v6 : S16x32768x64.Idx → EReal) = shapeCast S16x32768x64 (transpose S4x4x32768x64 [0, 2, 1, 3] (m ((c : Thread nD τ).loc main_arg3)) transposes_S4x32768x4x64_S4x4x32768x64_0_2_1_3) shapeCasts_S4x4x32768x64_S16x32768x64 := by
    show StableHlo.after _ _ _ = _
    after_results
    rfl
  rw [e]
  exact pair_cache _ b h t d

/-- the value codes, -/
theorem V_v12_apply (b h : Fin 4) (t : Fin 32768) (d : Fin 64) :
    (V m c main_v12 : S16x32768x64.Idx → EReal) (ix3 ⟨b.val * 4 + h.val, by omega⟩ t d) = (m ((c : Thread nD τ).loc main_arg5) : S4x32768x4x64.Idx → EReal) (ix4 b t h d) := by
  have e : (V m c main_v12 : S16x32768x64.Idx → EReal) = shapeCast S16x32768x64 (transpose S4x4x32768x64 [0, 2, 1, 3] (m ((c : Thread nD τ).loc main_arg5)) transposes_S4x32768x4x64_S4x4x32768x64_0_2_1_3) shapeCasts_S4x4x32768x64_S16x32768x64 := by
    show StableHlo.after _ _ _ = _
    after_results
    rfl
  rw [e]
  exact pair_cache _ b h t d

/-- the key scales -/
theorem V_v10_apply (b h : Fin 4) :
    (V m c main_v10 : S16x1x1.Idx → EReal) (ix3 ⟨b.val * 4 + h.val, by omega⟩ 0 0) = (m ((c : Thread nD τ).loc main_arg4) : S4.Idx → EReal) (ix1 h) := by
  have e : (V m c main_v10 : S16x1x1.Idx → EReal) = shapeCast S16x1x1 (shapeCast S16 (broadcastInDim S4x4 ![0, 1] bcast_S1x4_S4x4_0_1 (shapeCast S1x4 (m ((c : Thread nD τ).loc main_arg4)) shapeCasts_S4_S1x4)) shapeCasts_S4x4_S16) shapeCasts_S16_S16x1x1 := by
    show StableHlo.after _ _ _ = _
    after_results
    rfl
  rw [e]
  exact pair_scale _ b h

/-- and the value scales. -/
theorem V_v16_apply (b h : Fin 4) :
    (V m c main_v16 : S16x1x1.Idx → EReal) (ix3 ⟨b.val * 4 + h.val, by omega⟩ 0 0) = (m ((c : Thread nD τ).loc main_arg6) : S4.Idx → EReal) (ix1 h) := by
  have e : (V m c main_v16 : S16x1x1.Idx → EReal) = shapeCast S16x1x1 (shapeCast S16 (broadcastInDim S4x4 ![0, 1] bcast_S1x4_S4x4_0_1 (shapeCast S1x4 (m ((c : Thread nD τ).loc main_arg6)) shapeCasts_S4_S1x4)) shapeCasts_S4x4_S16) shapeCasts_S16_S16x1x1 := by
    show StableHlo.after _ _ _ = _
    after_results
    rfl
  rw [e]
  exact pair_scale _ b h

end Cert.ReferenceIdeal.Value
-- ==== Proof.ReferenceIdeal.Value.lean ====
/-
  The three results of the reference at the ideal instance, as the plain function of `Spec`.
-/
module

public import proofs.«01_k».proof.Proof.ReferenceIdeal.Pay
public import proofs.«01_k».proof.Proof.ReferenceIdeal.Host

@[expose] public section

noncomputable section

namespace Cert.ReferenceIdeal.Value

open Cert.ReferenceIdeal Cert.ReferenceIdeal.Gen
open Idealize.ShloMosaic Idealize.ShloMosaic.TcCoe Idealize.SL.Sem
open Idealize.ShloMosaic.Pipeline (Dat)
open scoped BigOperators
open Cert.Spec (quant c8 hd)

variable (m : (ℓ : Loc nD τ sig) → Buf (Elt Ideal) ℓ) (c : Dev nD)

/-- The arguments of a launch, by their indices. -/
def args : Spec.Args where
  q b r d := (m ((c : Thread nD τ).loc main_arg0) : S4x1x4096.Idx → EReal) (ix3 b 0 ⟨r.val * 64 + d.val, by omega⟩)
  kn b h d := (m ((c : Thread nD τ).loc main_arg1) : S4x1x4x64.Idx → EReal) (ix4 b 0 h d)
  vn b h d := (m ((c : Thread nD τ).loc main_arg2) : S4x1x4x64.Idx → EReal) (ix4 b 0 h d)
  kc b t h d := (m ((c : Thread nD τ).loc main_arg3) : S4x32768x4x64.Idx → EReal) (ix4 b t h d)
  ks h := (m ((c : Thread nD τ).loc main_arg4) : S4.Idx → EReal) (ix1 h)
  vc b t h d := (m ((c : Thread nD τ).loc main_arg5) : S4x32768x4x64.Idx → EReal) (ix4 b t h d)
  vs h := (m ((c : Thread nD τ).loc main_arg6) : S4.Idx → EReal) (ix1 h)

/-- Every window's block starts at the array's origin. -/
theorem index_facts : ∀ t : Fin grid0.N,
    (win0_0.index t 0 = 0 ∧ win0_0.index t 1 = 0 ∧ win0_0.index t 2 = 0)
    ∧ (win0_1.index t 0 = 0 ∧ win0_1.index t 1 = 0 ∧ win0_1.index t 2 = 0)
    ∧ (win0_2.index t 0 = 0 ∧ win0_2.index t 1 = 0 ∧ win0_2.index t 2 = 0)
    ∧ (win0_3.index t 0 = 0 ∧ win0_3.index t 1 = 0 ∧ win0_3.index t 2 = 0)
    ∧ (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0 ∧ win0_7.index t 2 = 0)
    ∧ (win0_8.index t 0 = 0 ∧ win0_8.index t 1 = 0 ∧ win0_8.index t 2 = 0 ∧ win0_8.index t 3 = 0)
    ∧ (win0_9.index t 0 = 0 ∧ win0_9.index t 1 = 0 ∧ win0_9.index t 2 = 0 ∧ win0_9.index t 3 = 0) := by
  decide +kernel

/-! ## The blocks are the whole arrays -/

/-- Window 0. -/
theorem blk_0 (t : Fin cfg0.N) : (iblk m c 0 t : S16x16x64.Idx → EReal) = (V m c main_v0 : S16x16x64.Idx → EReal) := by
  funext j
  unfold iblk
  rw [View.read_apply]
  show V m c main_v0 _ = _
  refine congrArg (V m c main_v0) (funext fun a => Fin.ext ?_)
  have e := (index_facts t).1
  match a with
  | ⟨0, _⟩ => show win0_0.index t 0 * 16 + 1 * (j 0).val = (j 0).val; rw [e.1]; omega
  | ⟨1, _⟩ => show win0_0.index t 1 * 16 + 1 * (j 1).val = (j 1).val; rw [e.2.1]; omega
  | ⟨2, _⟩ => show win0_0.index t 2 * 64 + 1 * (j 2).val = (j 2).val; rw [e.2.2]; omega

/-- Window 1. -/
theorem blk_1 (t : Fin cfg0.N) : (iblk m c 1 t : S16x1x64.Idx → EReal) = (V m c main_v2 : S16x1x64.Idx → EReal) := by
  funext j
  unfold iblk
  rw [View.read_apply]
  show V m c main_v2 _ = _
  refine congrArg (V m c main_v2) (funext fun a => Fin.ext ?_)
  have e := (index_facts t).2.1
  match a with
  | ⟨0, _⟩ => show win0_1.index t 0 * 16 + 1 * (j 0).val = (j 0).val; rw [e.1]; omega
  | ⟨1, _⟩ => show win0_1.index t 1 * 1 + 1 * (j 1).val = (j 1).val; rw [e.2.1]; omega
  | ⟨2, _⟩ => show win0_1.index t 2 * 64 + 1 * (j 2).val = (j 2).val; rw [e.2.2]; omega

/-- Window 2. -/
theorem blk_2 (t : Fin cfg0.N) : (iblk m c 2 t : S16x1x64.Idx → EReal) = (V m c main_v4 : S16x1x64.Idx → EReal) := by
  funext j
  unfold iblk
  rw [View.read_apply]
  show V m c main_v4 _ = _
  refine congrArg (V m c main_v4) (funext fun a => Fin.ext ?_)
  have e := (index_facts t).2.2.1
  match a with
  | ⟨0, _⟩ => show win0_2.index t 0 * 16 + 1 * (j 0).val = (j 0).val; rw [e.1]; omega
  | ⟨1, _⟩ => show win0_2.index t 1 * 1 + 1 * (j 1).val = (j 1).val; rw [e.2.1]; omega
  | ⟨2, _⟩ => show win0_2.index t 2 * 64 + 1 * (j 2).val = (j 2).val; rw [e.2.2]; omega

/-- Window 3. -/
theorem blk_3 (t : Fin cfg0.N) : (iblk m c 3 t : S16x32768x64.Idx → EReal) = (V m c main_v6 : S16x32768x64.Idx → EReal) := by
  funext j
  unfold iblk
  rw [View.read_apply]
  show V m c main_v6 _ = _
  refine congrArg (V m c main_v6) (funext fun a => Fin.ext ?_)
  have e := (index_facts t).2.2.2.1
  match a with
  | ⟨0, _⟩ => show win0_3.index t 0 * 16 + 1 * (j 0).val = (j 0).val; rw [e.1]; omega
  | ⟨1, _⟩ => show win0_3.index t 1 * 32768 + 1 * (j 1).val = (j 1).val; rw [e.2.1]; omega
  | ⟨2, _⟩ => show win0_3.index t 2 * 64 + 1 * (j 2).val = (j 2).val; rw [e.2.2]; omega

/-- Window 4. -/
theorem blk_4 (t : Fin cfg0.N) : (iblk m c 4 t : S16x1x1.Idx → EReal) = (V m c main_v10 : S16x1x1.Idx → EReal) := by
  funext j
  unfold iblk
  rw [View.read_apply]
  show V m c main_v10 _ = _
  refine congrArg (V m c main_v10) (funext fun a => Fin.ext ?_)
  have e := (index_facts t).2.2.2.2.1
  match a with
  | ⟨0, _⟩ => show win0_4.index t 0 * 16 + 1 * (j 0).val = (j 0).val; rw [e.1]; omega
  | ⟨1, _⟩ => show win0_4.index t 1 * 1 + 1 * (j 1).val = (j 1).val; rw [e.2.1]; omega
  | ⟨2, _⟩ => show win0_4.index t 2 * 1 + 1 * (j 2).val = (j 2).val; rw [e.2.2]; omega

/-- Window 5. -/
theorem blk_5 (t : Fin cfg0.N) : (iblk m c 5 t : S16x32768x64.Idx → EReal) = (V m c main_v12 : S16x32768x64.Idx → EReal) := by
  funext j
  unfold iblk
  rw [View.read_apply]
  show V m c main_v12 _ = _
  refine congrArg (V m c main_v12) (funext fun a => Fin.ext ?_)
  have e := (index_facts t).2.2.2.2.2.1
  match a with
  | ⟨0, _⟩ => show win0_5.index t 0 * 16 + 1 * (j 0).val = (j 0).val; rw [e.1]; omega
  | ⟨1, _⟩ => show win0_5.index t 1 * 32768 + 1 * (j 1).val = (j 1).val; rw [e.2.1]; omega
  | ⟨2, _⟩ => show win0_5.index t 2 * 64 + 1 * (j 2).val = (j 2).val; rw [e.2.2]; omega

/-- Window 6. -/
theorem blk_6 (t : Fin cfg0.N) : (iblk m c 6 t : S16x1x1.Idx → EReal) = (V m c main_v16 : S16x1x1.Idx → EReal) := by
  funext j
  unfold iblk
  rw [View.read_apply]
  show V m c main_v16 _ = _
  refine congrArg (V m c main_v16) (funext fun a => Fin.ext ?_)
  have e := (index_facts t).2.2.2.2.2.2.1
  match a with
  | ⟨0, _⟩ => show win0_6.index t 0 * 16 + 1 * (j 0).val = (j 0).val; rw [e.1]; omega
  | ⟨1, _⟩ => show win0_6.index t 1 * 1 + 1 * (j 1).val = (j 1).val; rw [e.2.1]; omega
  | ⟨2, _⟩ => show win0_6.index t 2 * 1 + 1 * (j 2).val = (j 2).val; rw [e.2.2]; omega

/-! ## What the body leaves in each result's buffer -/

/-- Three zeros, as a function. -/
theorem zero3 : (![0, 0, 0] : Fin 3 → ℕ) = fun _ => 0 := funext fun a => by fin_cases a <;> rfl
/-- Four zeros, as a function. -/
theorem zero4 : (![0, 0, 0, 0] : Fin 4 → ℕ) = fun _ => 0 := funext fun a => by fin_cases a <;> rfl

/-- The quantised new key, -/
theorem out8_eq (t : Fin cfg0.N) : out0_8 (F := Ideal) (iblk m c 0 t) (iblk m c 1 t) (iblk m c 2 t) (iblk m c 3 t) (iblk m c 4 t) (iblk m c 5 t) (iblk m c 6 t)
    = k0_pay5 (V m c main_v10) (V m c main_v2) := by
  unfold out0_8
  rw [View.canon_unit_zero zero4, View.ld_unit_zero zero3, View.ld_unit_zero zero3]
  exact congrArg₂ k0_pay5 (blk_4 m c t) (blk_1 m c t)

/-- the quantised new value, -/
theorem out9_eq (t : Fin cfg0.N) : out0_9 (F := Ideal) (iblk m c 0 t) (iblk m c 1 t) (iblk m c 2 t) (iblk m c 3 t) (iblk m c 4 t) (iblk m c 5 t) (iblk m c 6 t)
    = k0_pay6 (V m c main_v16) (V m c main_v4) := by
  unfold out0_9
  rw [View.canon_unit_zero zero4, View.ld_unit_zero zero3, View.ld_unit_zero zero3]
  exact congrArg₂ k0_pay6 (blk_6 m c t) (blk_2 m c t)

/-- and the attention result, of the arrays the body reads. -/
def pay (x0 : Vec Ideal S16x16x64 .bf16) (x1 x2 : Vec Ideal S16x1x64 .bf16) (x3 : Vec Ideal S16x32768x64 .fp8e4m3) (x4 : Vec Ideal S16x1x1 .f32)
    (x5 : Vec Ideal S16x32768x64 .fp8e4m3) (x6 : Vec Ideal S16x1x1 .f32) : Vec Ideal S4x64x64 .bf16 :=
  k0_pay8 (F := Ideal) (k0_pay1 (F := Ideal) x4) (k0_pay2 (F := Ideal) x6) (k0_pay3 (F := Ideal) x4 x1) (k0_pay4 (F := Ideal) x6 x2) (k0_pay7 (F := Ideal) x3) x5 x0

/-- The block of the attention result that the call writes is `pay` of the whole arrays. -/
theorem out7_eq (t : Fin cfg0.N) : out0_7 (F := Ideal) (iblk m c 0 t) (iblk m c 1 t) (iblk m c 2 t) (iblk m c 3 t) (iblk m c 4 t) (iblk m c 5 t) (iblk m c 6 t)
    = pay (V m c main_v0) (V m c main_v2) (V m c main_v4) (V m c main_v6) (V m c main_v10) (V m c main_v12) (V m c main_v16) := by
  unfold out0_7
  rw [View.canon_unit_zero zero3, View.ld_unit_zero zero3, View.ld_unit_zero zero3, View.ld_unit_zero zero3, View.ld_unit_zero zero3,
    View.ld_unit_zero zero3, View.ld_unit_zero zero3, View.ld_unit_zero zero3]
  show pay (iblk m c 0 t) (iblk m c 1 t) (iblk m c 2 t) (iblk m c 3 t) (iblk m c 4 t) (iblk m c 5 t) (iblk m c 6 t) = _
  rw [blk_0 m c t, blk_1 m c t, blk_2 m c t, blk_3 m c t, blk_4 m c t, blk_5 m c t, blk_6 m c t]

/-- A scale read back, -/
theorem pay1_apply (x4 : Vec Ideal S16x1x1 .f32) (n : Fin 16) : k0_pay1 (F := Ideal) x4 (ix3 n 0 0) = x4 (ix3 n 0 0) := by
  pointwise [k0_pay1]

/-- and the other scale, -/
theorem pay2_apply (x6 : Vec Ideal S16x1x1 .f32) (n : Fin 16) : k0_pay2 (F := Ideal) x6 (ix3 n 0 0) = x6 (ix3 n 0 0) := by
  pointwise [k0_pay2]

/-- and a cache's codes. -/
theorem pay7_apply (x : Vec Ideal S16x32768x64 .fp8e4m3) (n : Fin 16) (t : Fin 32768) (d : Fin 64) :
    k0_pay7 (F := Ideal) x (ix3 n t d) = x (ix3 n t d) := by
  pointwise [k0_pay7]

/-- The exponential of a difference of columns, at an index. -/
theorem expsub_apply (x y : FVec Ideal S16x16x1 .f32) (n g : Fin 16) : exp (subf x y) (ix3 n g 0) = Ideal.exp (x (ix3 n g 0) - y (ix3 n g 0)) := by
  pointwise

/-- The word the maximum starts from. -/
theorem neg_inf : Ideal.ofBits .f32 0xFF800000#32 = (⊥ : EReal) := by simp [Ideal.ofBits, Ideal.ieee]

/-- The attention result is the plain one. -/
theorem pay_eq (b : Fin 4) (r d : Fin 64) :
    pay (V m c main_v0) (V m c main_v2) (V m c main_v4) (V m c main_v6) (V m c main_v10) (V m c main_v12) (V m c main_v16) (ix3 b r d)
      = Spec.y (args m c) b r d := by
  have hs : ∀ t, sP (V m c main_v0) (deq (k0_pay1 (F := Ideal) (V m c main_v10)) (k0_pay7 (F := Ideal) (V m c main_v6)))
      (ix3 ⟨b.val * 4 + r.val / 16, by omega⟩ ⟨r.val % 16, by omega⟩ t) = Spec.score (args m c) b r t := fun t => by
    rw [sP_apply]
    refine congrArg (· * c8) (Finset.sum_congr rfl fun d _ => ?_)
    rw [deq_apply, pay1_apply, pay7_apply]
    exact congrArg₂ (· * ·) (V_v0_apply m c b r d) (congrArg₂ (· * ·) (V_v6_apply m c b (hd r) t d) (V_v10_apply m c b (hd r)))
  have hq : sQ (V m c main_v0) (deqN (k0_pay1 (F := Ideal) (V m c main_v10)) (k0_pay3 (F := Ideal) (V m c main_v10) (V m c main_v2)))
      (ix3 ⟨b.val * 4 + r.val / 16, by omega⟩ ⟨r.val % 16, by omega⟩ 0) = Spec.scoreNew (args m c) b r := by
    rw [sQ_apply]
    refine congrArg (· * c8) (Finset.sum_congr rfl fun d _ => ?_)
    rw [deqN_apply, pay1_apply, pay3_apply]
    exact congrArg₂ (· * ·) (V_v0_apply m c b r d) (congrArg₂ (· * ·) (congrArg₂ quant (V_v2_apply m c b (hd r) d) (V_v10_apply m c b (hd r)))
      (V_v10_apply m c b (hd r)))
  have hv : ∀ t, deq (k0_pay2 (F := Ideal) (V m c main_v16)) (k0_pay7 (F := Ideal) (V m c main_v12))
      (ix3 ⟨b.val * 4 + r.val / 16, by omega⟩ t d) = Spec.val (args m c) b r d t := fun t => by
    rw [deq_apply, pay2_apply, pay7_apply]
    exact congrArg₂ (· * ·) (V_v12_apply m c b (hd r) t d) (V_v16_apply m c b (hd r))
  have hw : deqN (k0_pay2 (F := Ideal) (V m c main_v16)) (k0_pay4 (F := Ideal) (V m c main_v16) (V m c main_v4))
      (ix3 ⟨b.val * 4 + r.val / 16, by omega⟩ 0 d) = Spec.valNew (args m c) b r d := by
    rw [deqN_apply, pay2_apply, pay4_apply]
    exact congrArg₂ (· * ·) (congrArg₂ quant (V_v4_apply m c b (hd r) d) (V_v16_apply m c b (hd r))) (V_v16_apply m c b (hd r))
  unfold pay
  rw [pay8_eq]
  dsimp only
  rw [quo_apply, num_apply, den_apply]
  simp only [wP_apply, expsub_apply, pk_apply, hs, hq, hv, hw, neg_inf]
  rfl

/-! ## The result arrays after the run -/

/-- The attention result as an array, -/
theorem full_7 (t : Fin cfg0.N) : out0_7 (F := Ideal) (iblk m c 0 t) (iblk m c 1 t) (iblk m c 2 t) (iblk m c 3 t) (iblk m c 4 t) (iblk m c 5 t) (iblk m c 6 t)
    = Spec.resY (args m c) := by
  rw [out7_eq]
  funext j
  obtain ⟨b, r, d, rfl⟩ : ∃ (b : Fin 4) (r d : Fin 64), j = ix3 b r d := ⟨j 0, j 1, j 2, eq_ix3 j⟩
  rw [pay_eq, Spec.resY_ix3]

/-- the quantised new key, -/
theorem full_8 (t : Fin cfg0.N) : out0_8 (F := Ideal) (iblk m c 0 t) (iblk m c 1 t) (iblk m c 2 t) (iblk m c 3 t) (iblk m c 4 t) (iblk m c 5 t) (iblk m c 6 t)
    = Spec.resK (args m c) := by
  rw [out8_eq]
  funext j
  obtain ⟨b, z, h, d, rfl⟩ : ∃ (b : Fin 4) (z : Fin 1) (h : Fin 4) (d : Fin 64), j = ix4 b z h d := ⟨j 0, j 1, j 2, j 3, eq_ix4 j⟩
  obtain rfl : z = 0 := Subsingleton.elim _ _
  rw [pay5_apply]
  exact congrArg₂ quant (V_v2_apply m c b h d) (V_v10_apply m c b h)

/-- and the quantised new value. -/
theorem full_9 (t : Fin cfg0.N) : out0_9 (F := Ideal) (iblk m c 0 t) (iblk m c 1 t) (iblk m c 2 t) (iblk m c 3 t) (iblk m c 4 t) (iblk m c 5 t) (iblk m c 6 t)
    = Spec.resV (args m c) := by
  rw [out9_eq]
  funext j
  obtain ⟨b, z, h, d, rfl⟩ : ∃ (b : Fin 4) (z : Fin 1) (h : Fin 4) (d : Fin 64), j = ix4 b z h d := ⟨j 0, j 1, j 2, j 3, eq_ix4 j⟩
  obtain rfl : z = 0 := Subsingleton.elim _ _
  rw [pay6_apply]
  exact congrArg₂ quant (V_v4_apply m c b h d) (V_v16_apply m c b h)

/-- What the one grid point writes back of result 0 is the whole plain result, -/
theorem flushed_7 (t : Fin cfg0.N) (_ : (cfg0.win 7).flush t = true) :
    (dats m 0 c).flushed 7 t = ((cfg0.win 7).blk t).view.read (Elt Ideal) (Spec.resY (args m c)) := by
  show (cfg0.win 7).cut (grid0.coords t) ((dats m 0 c).after 7 t) = _
  rw [after0_7, full_7]
  generalize Spec.resY (args m c) = R
  funext j
  rw [View.read_apply]
  have e := (index_facts t).2.2.2.2.2.2.2.1
  refine congrArg R (funext fun a => Fin.ext ?_)
  match a with
  | ⟨0, _⟩ => show (j 0 : Nat) = win0_7.index t 0 * 4 + 1 * (j 0 : Nat); rw [e.1]; omega
  | ⟨1, _⟩ => show (j 1 : Nat) = win0_7.index t 1 * 64 + 1 * (j 1 : Nat); rw [e.2.1]; omega
  | ⟨2, _⟩ => show (j 2 : Nat) = win0_7.index t 2 * 64 + 1 * (j 2 : Nat); rw [e.2.2]; omega

/-- so the array ends as it. -/
theorem final_7 : (dats m 0 c).arrAt 7 cfg0.N = Spec.resY (args m c) :=
  (dats m 0 c).arrAt_eq_of_cover 7 (Spec.resY (args m c)) (flushed_7 m c) fun i => by
    have x0 : ∀ t : Fin grid0.N, win0_7.xsize (grid0.coords t) 0 = 4 ∧ win0_7.xsize (grid0.coords t) 1 = 64 ∧ win0_7.xsize (grid0.coords t) 2 = 64 := by
      decide +kernel
    have h0 : (i 0 : Nat) < 4 := (i 0).isLt
    have h1 : (i 1 : Nat) < 64 := (i 1).isLt
    have h2 : (i 2 : Nat) < 64 := (i 2).isLt
    have t : Fin cfg0.N := ⟨0, by rw [show cfg0.N = 1 from N_0]; omega⟩
    have e := (index_facts t).2.2.2.2.2.2.2.1
    have x := x0 t
    refine ⟨t, flush0_7 t, ?_⟩
    show i ∈ ((View.whole main_v17_0).slice (win0_7.rect t)).set
    rw [View.set_slice_whole, Rect.mem_set_unit]
    intro a
    match a with
    | ⟨0, _⟩ => show win0_7.index t 0 * 4 ≤ (i 0 : Nat) ∧ (i 0 : Nat) < win0_7.index t 0 * 4 + win0_7.xsize (grid0.coords t) 0
                rw [e.1, x.1]; omega
    | ⟨1, _⟩ => show win0_7.index t 1 * 64 ≤ (i 1 : Nat) ∧ (i 1 : Nat) < win0_7.index t 1 * 64 + win0_7.xsize (grid0.coords t) 1
                rw [e.2.1, x.2.1]; omega
    | ⟨2, _⟩ => show win0_7.index t 2 * 64 ≤ (i 2 : Nat) ∧ (i 2 : Nat) < win0_7.index t 2 * 64 + win0_7.xsize (grid0.coords t) 2
                rw [e.2.2, x.2.2]; omega

/-- What the one grid point writes back of result 1 is the whole plain result, -/
theorem flushed_8 (t : Fin cfg0.N) (_ : (cfg0.win 8).flush t = true) :
    (dats m 0 c).flushed 8 t = ((cfg0.win 8).blk t).view.read (Elt Ideal) (Spec.resK (args m c)) := by
  show (cfg0.win 8).cut (grid0.coords t) ((dats m 0 c).after 8 t) = _
  rw [after0_8, full_8]
  generalize Spec.resK (args m c) = R
  funext j
  rw [View.read_apply]
  have e := (index_facts t).2.2.2.2.2.2.2.2.1
  refine congrArg R (funext fun a => Fin.ext ?_)
  match a with
  | ⟨0, _⟩ => show (j 0 : Nat) = win0_8.index t 0 * 4 + 1 * (j 0 : Nat); rw [e.1]; omega
  | ⟨1, _⟩ => show (j 1 : Nat) = win0_8.index t 1 * 1 + 1 * (j 1 : Nat); rw [e.2.1]; omega
  | ⟨2, _⟩ => show (j 2 : Nat) = win0_8.index t 2 * 4 + 1 * (j 2 : Nat); rw [e.2.2.1]; omega
  | ⟨3, _⟩ => show (j 3 : Nat) = win0_8.index t 3 * 64 + 1 * (j 3 : Nat); rw [e.2.2.2]; omega

/-- so the array ends as it. -/
theorem final_8 : (dats m 0 c).arrAt 8 cfg0.N = Spec.resK (args m c) :=
  (dats m 0 c).arrAt_eq_of_cover 8 (Spec.resK (args m c)) (flushed_8 m c) fun i => by
    have x0 : ∀ t : Fin grid0.N, win0_8.xsize (grid0.coords t) 0 = 4 ∧ win0_8.xsize (grid0.coords t) 1 = 1 ∧ win0_8.xsize (grid0.coords t) 2 = 4 ∧ win0_8.xsize (grid0.coords t) 3 = 64 := by
      decide +kernel
    have h0 : (i 0 : Nat) < 4 := (i 0).isLt
    have h1 : (i 1 : Nat) < 1 := (i 1).isLt
    have h2 : (i 2 : Nat) < 4 := (i 2).isLt
    have h3 : (i 3 : Nat) < 64 := (i 3).isLt
    have t : Fin cfg0.N := ⟨0, by rw [show cfg0.N = 1 from N_0]; omega⟩
    have e := (index_facts t).2.2.2.2.2.2.2.2.1
    have x := x0 t
    refine ⟨t, flush0_8 t, ?_⟩
    show i ∈ ((View.whole main_v17_1).slice (win0_8.rect t)).set
    rw [View.set_slice_whole, Rect.mem_set_unit]
    intro a
    match a with
    | ⟨0, _⟩ => show win0_8.index t 0 * 4 ≤ (i 0 : Nat) ∧ (i 0 : Nat) < win0_8.index t 0 * 4 + win0_8.xsize (grid0.coords t) 0
                rw [e.1, x.1]; omega
    | ⟨1, _⟩ => show win0_8.index t 1 * 1 ≤ (i 1 : Nat) ∧ (i 1 : Nat) < win0_8.index t 1 * 1 + win0_8.xsize (grid0.coords t) 1
                rw [e.2.1, x.2.1]; omega
    | ⟨2, _⟩ => show win0_8.index t 2 * 4 ≤ (i 2 : Nat) ∧ (i 2 : Nat) < win0_8.index t 2 * 4 + win0_8.xsize (grid0.coords t) 2
                rw [e.2.2.1, x.2.2.1]; omega
    | ⟨3, _⟩ => show win0_8.index t 3 * 64 ≤ (i 3 : Nat) ∧ (i 3 : Nat) < win0_8.index t 3 * 64 + win0_8.xsize (grid0.coords t) 3
                rw [e.2.2.2, x.2.2.2]; omega

/-- What the one grid point writes back of result 2 is the whole plain result, -/
theorem flushed_9 (t : Fin cfg0.N) (_ : (cfg0.win 9).flush t = true) :
    (dats m 0 c).flushed 9 t = ((cfg0.win 9).blk t).view.read (Elt Ideal) (Spec.resV (args m c)) := by
  show (cfg0.win 9).cut (grid0.coords t) ((dats m 0 c).after 9 t) = _
  rw [after0_9, full_9]
  generalize Spec.resV (args m c) = R
  funext j
  rw [View.read_apply]
  have e := (index_facts t).2.2.2.2.2.2.2.2.2
  refine congrArg R (funext fun a => Fin.ext ?_)
  match a with
  | ⟨0, _⟩ => show (j 0 : Nat) = win0_9.index t 0 * 4 + 1 * (j 0 : Nat); rw [e.1]; omega
  | ⟨1, _⟩ => show (j 1 : Nat) = win0_9.index t 1 * 1 + 1 * (j 1 : Nat); rw [e.2.1]; omega
  | ⟨2, _⟩ => show (j 2 : Nat) = win0_9.index t 2 * 4 + 1 * (j 2 : Nat); rw [e.2.2.1]; omega
  | ⟨3, _⟩ => show (j 3 : Nat) = win0_9.index t 3 * 64 + 1 * (j 3 : Nat); rw [e.2.2.2]; omega

/-- so the array ends as it. -/
theorem final_9 : (dats m 0 c).arrAt 9 cfg0.N = Spec.resV (args m c) :=
  (dats m 0 c).arrAt_eq_of_cover 9 (Spec.resV (args m c)) (flushed_9 m c) fun i => by
    have x0 : ∀ t : Fin grid0.N, win0_9.xsize (grid0.coords t) 0 = 4 ∧ win0_9.xsize (grid0.coords t) 1 = 1 ∧ win0_9.xsize (grid0.coords t) 2 = 4 ∧ win0_9.xsize (grid0.coords t) 3 = 64 := by
      decide +kernel
    have h0 : (i 0 : Nat) < 4 := (i 0).isLt
    have h1 : (i 1 : Nat) < 1 := (i 1).isLt
    have h2 : (i 2 : Nat) < 4 := (i 2).isLt
    have h3 : (i 3 : Nat) < 64 := (i 3).isLt
    have t : Fin cfg0.N := ⟨0, by rw [show cfg0.N = 1 from N_0]; omega⟩
    have e := (index_facts t).2.2.2.2.2.2.2.2.2
    have x := x0 t
    refine ⟨t, flush0_9 t, ?_⟩
    show i ∈ ((View.whole main_v17_2).slice (win0_9.rect t)).set
    rw [View.set_slice_whole, Rect.mem_set_unit]
    intro a
    match a with
    | ⟨0, _⟩ => show win0_9.index t 0 * 4 ≤ (i 0 : Nat) ∧ (i 0 : Nat) < win0_9.index t 0 * 4 + win0_9.xsize (grid0.coords t) 0
                rw [e.1, x.1]; omega
    | ⟨1, _⟩ => show win0_9.index t 1 * 1 ≤ (i 1 : Nat) ∧ (i 1 : Nat) < win0_9.index t 1 * 1 + win0_9.xsize (grid0.coords t) 1
                rw [e.2.1, x.2.1]; omega
    | ⟨2, _⟩ => show win0_9.index t 2 * 4 ≤ (i 2 : Nat) ∧ (i 2 : Nat) < win0_9.index t 2 * 4 + win0_9.xsize (grid0.coords t) 2
                rw [e.2.2.1, x.2.2.1]; omega
    | ⟨3, _⟩ => show win0_9.index t 3 * 64 ≤ (i 3 : Nat) ∧ (i 3 : Nat) < win0_9.index t 3 * 64 + win0_9.xsize (grid0.coords t) 3
                rw [e.2.2.2, x.2.2.2]; omega

/-- The run of the reference at the ideal instance: each device's three results are the plain functions of its
    arguments. -/
theorem run (ρ : Dev nD → PrngReg) : θ_run defs (onTc (τ := τ) (main (F := Ideal))) ⟨m, fun _ => 0, ρ⟩ fun r =>
      (∀ c : Dev nD, r.2.mem ((c : Thread nD τ).loc main_v17_0) = Spec.resY (args m c)
        ∧ r.2.mem ((c : Thread nD τ).loc main_v17_1) = Spec.resK (args m c)
        ∧ r.2.mem ((c : Thread nD τ).loc main_v17_2) = Spec.resV (args m c)) :=
  (θ_run defs _ _).mono (fun _ h c => ⟨((h c).1 7).trans (final_7 m c), ((h c).1 8).trans (final_8 m c),
    ((h c).1 9).trans (final_9 m c)⟩) (run_main m ρ)

end Cert.ReferenceIdeal.Value
-- ==== Proof.Equal.lean ====
/-
  The two programs compute the same results at the ideal instance, where no scale is negative.
-/
module

public import proofs.«01_k».proof.Defs
public import proofs.«01_k».proof.Proof.Gen.Pre_scales_nonnegative
public import proofs.«01_k».proof.Proof.KernelIdeal.Result
public import proofs.«01_k».proof.Proof.ReferenceIdeal.Value
public import Idealize.ShloMosaic.Lib.Claim

@[expose] public section

noncomputable section

namespace Cert.Equal

open Idealize.ShloMosaic Idealize.ShloMosaic.TcCoe Idealize.SL.Sem

/-- What the precondition says of a key scale and a value scale: neither is negative. -/
theorem scales_nonneg (x0 : FVec Ideal Pre_scales_nonnegative.S4x1x4096 .bf16) (x1 x2 : FVec Ideal Pre_scales_nonnegative.S4x1x4x64 .bf16)
    (x3 : FVec Ideal Pre_scales_nonnegative.S4x32768x4x64 .fp8e4m3) (ks : FVec Ideal Pre_scales_nonnegative.S4 .f32)
    (x5 : FVec Ideal Pre_scales_nonnegative.S4x32768x4x64 .fp8e4m3) (vs : FVec Ideal Pre_scales_nonnegative.S4 .f32)
    (h : Pre_scales_nonnegative.fn (F := Ideal) x0 x1 x2 x3 ks x5 vs = fun _ => 1#1) (n : Fin 4) :
    0 ≤ (ks (ix1 n) : EReal) ∧ 0 ≤ (vs (ix1 n) : EReal) := by
  have e := congrFun h (ix1 n)
  have r : Pre_scales_nonnegative.fn (F := Ideal) x0 x1 x2 x3 ks x5 vs (ix1 n) = BitVec.ofBool (decide (0 ≤ (ks (ix1 n) : EReal))) &&& BitVec.ofBool (decide (0 ≤ (vs (ix1 n) : EReal))) := by
    pointwise [Pre_scales_nonnegative.fn]
    rfl
  rw [r] at e
  by_cases h1 : 0 ≤ (ks (ix1 n) : EReal) <;> by_cases h2 : 0 ≤ (vs (ix1 n) : EReal)
  · exact ⟨h1, h2⟩
  all_goals simp [h1, h2] at e

/-- The two programs' arguments agree. -/
theorem args_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6)) :
    ReferenceIdeal.Value.args m' c = KernelIdeal.Run.args m c := by
  unfold ReferenceIdeal.Value.args KernelIdeal.Run.args
  rw [h0, h1, h2, h3, h4, h5, h6]

/-- The algebraic claim: from equal arguments with no negative scale both programs run, leave their arguments unchanged
    and end with equal results. -/
theorem algebraic : algebraic_KernelIdeal_ReferenceIdeal_pre_scales_nonnegative := by
  intro m g m' g' hp ha
  have hs := fun c n => scales_nonneg _ _ _ _ _ _ _ (hp c) n
  have e : ∀ c, ReferenceIdeal.Value.args m' c = KernelIdeal.Run.args m c := fun c =>
    args_eq m m' c (ha c).1 (ha c).2.1 (ha c).2.2.1 (ha c).2.2.2.1 (ha c).2.2.2.2.1 (ha c).2.2.2.2.2.1 (ha c).2.2.2.2.2.2
  refine ⟨fun c => Spec.resY (KernelIdeal.Run.args m c), fun c => Spec.resK (KernelIdeal.Run.args m c), fun c => m (c.tc.loc KernelIdeal.main_arg4),
    fun c => Spec.resV (KernelIdeal.Run.args m c), fun c => m (c.tc.loc KernelIdeal.main_arg6), ?_, ?_⟩
  · refine (θ_run _ _ _).mono (fun r h c => ?_)
      (θ_run_and (KernelIdeal.Run.run m g (fun c n => (hs c n).1) (fun c n => (hs c n).2)) (KernelIdeal.Run.unchanged m g))
    obtain ⟨r0, r1, r2⟩ := h.1 c
    obtain ⟨a0, a1, a2, a3, a4, a5, a6⟩ := h.2 c
    exact ⟨r0, r1, a4, r2, a6, a0, a1, a2, a3, a4, a5, a6⟩
  · refine (θ_run _ _ _).mono (fun r h c => ?_) (θ_run_and (ReferenceIdeal.Value.run m' g') (ReferenceIdeal.Gen.unchanged m' g'))
    obtain ⟨r0, r1, r2⟩ := h.1 c
    obtain ⟨a0, a1, a2, a3, a4, a5, a6⟩ := h.2 c
    rw [e c] at r0 r1 r2
    exact ⟨r0, r1, a4.trans (ha c).2.2.2.2.1, r2, a6.trans (ha c).2.2.2.2.2.2, a0, a1, a2, a3, a4, a5, a6⟩

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_scales_nonnegative
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Body
public import proofs.«01_k».proof.Proof.KernelIdeal.Body
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim of the certificate: the programs' stated facts, the frames, the idealization and the equality of the two
    programs' results. -/
theorem claim : Cert.Claim := ⟨Cert.Kernel.Gen.facts, Cert.KernelIdeal.Gen.facts, Cert.ReferenceIdeal.Gen.facts,
  Cert.Pre_scales_nonnegative.Gen.facts, fun m g _ => Cert.Kernel.Run.frame m g, fun m g _ => Cert.KernelIdeal.Run.frame m g,
  fun m g _ => Cert.KernelIdeal.Run.frame m g, fun m g _ => Cert.ReferenceIdeal.Gen.frame m g,
  fun m g _ => Cert.ReferenceIdeal.Gen.frame m g, trivial, Cert.Equal.algebraic⟩

end Cert.Proof

end
